-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x8x256 : Shape := ⟨3, ![2048, 8, 256]⟩
abbrev S2048x8 : Shape := ⟨2, ![2048, 8]⟩
abbrev S256x1024 : Shape := ⟨2, ![256, 1024]⟩
abbrev S_ : Shape := ⟨0, ![]⟩

class Facts : Prop where
  bcast_S_S2048x8x256 : S_.BroadcastsInDim S2048x8x256 (![] : Fin 0 → Fin S2048x8x256.rank)
  bcast_S_S256x1024 : S_.BroadcastsInDim S256x1024 (![] : Fin 0 → Fin S256x1024.rank)

variable [Facts]

def fn {F : FTy → Type} [FloatOps F] (main_arg0 : FVec F S2048x8x256 .f32) (main_arg1 : IVec S2048x8 1) (main_arg2 : FVec F S256x1024 .f32) : IVec S2048x8x256 1 × IVec S256x1024 1 :=
  let main_v0 : FVec F S2048x8x256 .f32 := Host.absf main_arg0
  let main_cst : FVec F S_ .f32 := constant S_ .f32 0x7F800000#32
  let main_v1 : FVec F S2048x8x256 .f32 := broadcastInDim S2048x8x256 ![] bcast_S_S2048x8x256 main_cst
  let main_v2 : IVec S2048x8x256 1 := cmpf .olt main_v0 main_v1
  let main_v3 : FVec F S256x1024 .f32 := Host.absf main_arg2
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  (main_v2, main_v5)
-- ==== Kernel.lean ====
abbrev S2048x8x256 : Shape := ⟨3, ![2048, 8, 256]⟩
abbrev S2048x8 : Shape := ⟨2, ![2048, 8]⟩
abbrev S256x1024 : Shape := ⟨2, ![256, 1024]⟩
abbrev S16384x256 : Shape := ⟨2, ![16384, 256]⟩
abbrev S8x1x2048 : Shape := ⟨3, ![8, 1, 2048]⟩
abbrev S1x1 : Shape := ⟨2, ![1, 1]⟩
abbrev S2048x256 : Shape := ⟨2, ![2048, 256]⟩
abbrev S1x1x2048 : Shape := ⟨3, ![1, 1, 2048]⟩
abbrev S1x1024 : Shape := ⟨2, ![1, 1024]⟩
abbrev S1x2048 : Shape := ⟨2, ![1, 2048]⟩
abbrev S2048 : Shape := ⟨1, ![2048]⟩
abbrev S2048x1024 : Shape := ⟨2, ![2048, 1024]⟩
abbrev S2048x1 : Shape := ⟨2, ![2048, 1]⟩
abbrev S1024 : Shape := ⟨1, ![1024]⟩
abbrev S1 : Shape := ⟨1, ![1]⟩
abbrev S1x1x1 : Shape := ⟨3, ![1, 1, 1]⟩
abbrev S1x1x1024 : Shape := ⟨3, ![1, 1, 1024]⟩
abbrev S16384 : Shape := ⟨1, ![16384]⟩
abbrev S_ : Shape := ⟨0, ![]⟩

abbrev nBuf : Space → Nat
  | .hbm => 15
  | .vmem => 14
  | .smem => 0
  | _ => 0

abbrev bufTy : (tb : Table) → Fin (tcTables nBuf tb) → BufTy
  | .hbm, ⟨0, _⟩ => ⟨S2048x8x256, .f32⟩
  | .hbm, ⟨1, _⟩ => ⟨S2048x8, .i1⟩
  | .hbm, ⟨2, _⟩ => ⟨S256x1024, .f32⟩
  | .hbm, ⟨3, _⟩ => ⟨S16384x256, .f32⟩
  | .hbm, ⟨4, _⟩ => ⟨S8x1x2048, .i1⟩
  | .hbm, ⟨5, _⟩ => ⟨S8x1x2048, .f32⟩
  | .hbm, ⟨6, _⟩ => ⟨S256x1024, .bf16⟩
  | .hbm, ⟨7, _⟩ => ⟨S16384x256, .f32⟩
  | .hbm, ⟨8, _⟩ => ⟨S8x1x2048, .i32⟩
  | .hbm, ⟨9, _⟩ => ⟨S1x1, .f32⟩
  | .hbm, ⟨10, _⟩ => ⟨S1x1, .f32⟩
  | .hbm, ⟨11, _⟩ => ⟨S2048x8x256, .f32⟩
  | .hbm, ⟨12, _⟩ => ⟨S16384, .i32⟩
  | .hbm, ⟨13, _⟩ => ⟨S_, .f32⟩
  | .hbm, ⟨14, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S1x1x2048, .f32⟩
  | .local _ .vmem, ⟨3, _⟩ => ⟨S1x1x2048, .f32⟩
  | .local _ .vmem, ⟨4, _⟩ => ⟨S256x1024, .f32⟩
  | .local _ .vmem, ⟨5, _⟩ => ⟨S256x1024, .bf16⟩
  | .local _ .vmem, ⟨6, _⟩ => ⟨S2048x256, .f32⟩
  | .local _ .vmem, ⟨7, _⟩ => ⟨S2048x256, .f32⟩
  | .local _ .vmem, ⟨8, _⟩ => ⟨S1x1x2048, .i32⟩
  | .local _ .vmem, ⟨9, _⟩ => ⟨S1x1x2048, .i32⟩
  | .local _ .vmem, ⟨10, _⟩ => ⟨S1x1, .f32⟩
  | .local _ .vmem, ⟨11, _⟩ => ⟨S1x1, .f32⟩
  | .local _ .vmem, ⟨12, _⟩ => ⟨S1x1024, .f32⟩
  | .local _ .vmem, ⟨13, _⟩ => ⟨S1x2048, .f32⟩
  | _, _ => ⟨S2048x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v65 : BitVec 1 := Scalar.cmpi .eq arg0 c7_i32
  let v66 : BitVec 32 := Scalar.extui v65
  let c0_i32_30 : BitVec 32 := 0#32
  let v67 : BitVec 1 := Scalar.cmpi .ne v66 c0_i32_30
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2048x8x256 : Shape := ⟨3, ![2048, 8, 256]⟩
abbrev S2048x8 : Shape := ⟨2, ![2048, 8]⟩
abbrev S256x1024 : Shape := ⟨2, ![256, 1024]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S16384x1024 : Shape := ⟨2, ![16384, 1024]⟩
abbrev S1024 : Shape := ⟨1, ![1024]⟩
abbrev S1x1024 : Shape := ⟨2, ![1, 1024]⟩
abbrev S1024x256 : Shape := ⟨2, ![1024, 256]⟩
abbrev S1 : Shape := ⟨1, ![1]⟩
abbrev S1x1 : Shape := ⟨2, ![1, 1]⟩
abbrev S2048x8x1 : Shape := ⟨3, ![2048, 8, 1]⟩

abbrev nBuf : Space → Nat
  | .hbm => 90
  | .vmem => 0
  | .smem => 0
  | _ => 0

abbrev bufTy : (tb : Table) → Fin (tcTables nBuf tb) → BufTy
  | .hbm, ⟨0, _⟩ => ⟨S2048x8x256, .f32⟩
  | .hbm, ⟨1, _⟩ => ⟨S2048x8, .i1⟩
  | .hbm, ⟨2, _⟩ => ⟨S256x1024, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S256x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S1x1024, .i32⟩
  | .hbm, ⟨28, _⟩ => ⟨S16384x1024, .i32⟩
  | .hbm, ⟨29, _⟩ => ⟨S16384x1024, .i32⟩
  | .hbm, ⟨30, _⟩ => ⟨S16384x1024, .i1⟩
  | .hbm, ⟨31, _⟩ => ⟨S16384x1024, .f32⟩
  | .hbm, ⟨32, _⟩ => ⟨S1024x256, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x256, .f32⟩
  | .hbm, ⟨52, _⟩ => ⟨S16384x256, .i1⟩
  | .hbm, ⟨53, _⟩ => ⟨S_, .f32⟩
  | .hbm, ⟨54, _⟩ => ⟨S16384x256, .f32⟩
  | .hbm, ⟨55, _⟩ => ⟨S16384x256, .f32⟩
  | .hbm, ⟨56, _⟩ => ⟨S2048x8x256, .f32⟩
  | .hbm, ⟨57, _⟩ => ⟨S16384, .i1⟩
  | .hbm, ⟨58, _⟩ => ⟨S16384, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S2048x8, .f32⟩
  | .hbm, ⟨76, _⟩ => ⟨S2048x8x1, .f32⟩
  | .hbm, ⟨77, _⟩ => ⟨S2048x8x256, .f32⟩
  | .hbm, ⟨78, _⟩ => ⟨S2048x8x256, .f32⟩
  | .hbm, ⟨79, _⟩ => ⟨S2048x8x1, .f32⟩
  | .hbm, ⟨80, _⟩ => ⟨S2048x8x256, .f32⟩
  | .hbm, ⟨81, _⟩ => ⟨S2048x8x256, .f32⟩
  | .hbm, ⟨82, _⟩ => ⟨S2048x8x256, .f32⟩
  | .hbm, ⟨83, _⟩ => ⟨S2048x8x256, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S2048x8x256, .f32⟩
  | .hbm, ⟨89, _⟩ => ⟨S2048x8x256, .f32⟩
  | _, _ => ⟨S2048x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v15 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v16 : Ref sig .tc := ⟨.hbm, 31, rfl⟩
abbrev main_v17 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_cst : Ref sig .tc := ⟨.hbm, 53, rfl⟩
abbrev main_call2_v15 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_2 : Ref sig .tc := ⟨.hbm, 62, rfl⟩
abbrev main_v25 : Ref sig .tc := ⟨.hbm, 63, rfl⟩
abbrev main_cst_3 : Ref sig .tc := ⟨.hbm, 64, rfl⟩
abbrev main_v26 : Ref sig .tc := ⟨.hbm, 65, rfl⟩
abbrev main_cst_4 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_5 : Ref sig .tc := ⟨.hbm, 71, rfl⟩
abbrev main_v31 : Ref sig .tc := ⟨.hbm, 72, rfl⟩
abbrev main_cst_6 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_7 : Ref sig .tc := ⟨.hbm, 84, rfl⟩
abbrev main_v42 : Ref sig .tc := ⟨.hbm, 85, rfl⟩
abbrev main_cst_8 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩

abbrev nD : Nat := 1
abbrev τ : Topo := Topo.v7x

variable {F : FTy → Type} [FloatOps F]
-- ==== Proof.RefRun.lean ====
/- The reference's run, read back: its host operations as four lists (the distances and the arg-max; the one-hot
   marks and the gathered codes; the effective units; the masked difference), each list's results as a named function
   of what it reads, and the four put together. -/
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-! ## What the program computes, by parts -/

/-- Minus the squared distance of each row of the input from each code, as the program spells it. -/
def negDist (x : FVec F S2048x8x256 .f32) (e : FVec F S256x1024 .f32) : FVec F S16384x1024 .f32 :=
  Host.negf (addf (subf (broadcastInDim S16384x1024 ![0, 1] bcast_S16384x1_S16384x1024_0_1 (broadcastInDim S16384x1 ![0] bcast_S16384_S16384x1_0 (Host.reduceAdd (mulf (shapeCast _ x shapeCasts_S2048x8x256_S16384x256) (shapeCast _ x shapeCasts_S2048x8x256_S16384x256)) (constant S_ .f32 0x00000000#32) reducesTo_S16384x256_S16384_d1 h_S_))) (mulf (broadcastInDim S16384x1024 ![] bcast_S_S16384x1024 (constant S_ .f32 0x40000000#32)) (Host.dotGeneral dot_S16384x256_S256x1024_S16384x1024_1_0_0_1_n_n none (shapeCast _ x shapeCasts_S2048x8x256_S16384x256) e))) (broadcastInDim S16384x1024 ![0, 1] bcast_S1x1024_S16384x1024_0_1 (broadcastInDim S1x1024 ![1] bcast_S1024_S1x1024_1 (Host.reduceAdd (mulf e e) (constant S_ .f32 0x00000000#32) reducesTo_S256x1024_S1024_d0 h_S_))))

/-- The index column of the joint maximum of values and positions along the codes. -/
def nearest (d : FVec F S16384x1024 .f32) : IVec S16384 32 :=
  fun j => (Host.argReduce reducer_argmax_f32_i32 d (iotaInDim S16384x1024 32 1) (constant S_ .f32 0xFF800000#32) (constantI S_ 32 0#32) reducesTo_S16384x1024_S16384_d1 h_S_ j).2

/-- Row `n` marks the code whose number is `i n`. -/
def oneHot (i : IVec S16384 32) : FVec F S16384x1024 .f32 :=
  uitofp .f32 (cmpi .eq (broadcastInDim S16384x1024 ![0, 1] bcast_S16384x1_S16384x1024_0_1 (broadcastInDim S16384x1 ![0] bcast_S16384_S16384x1_0 i)) (broadcastInDim S16384x1024 ![0, 1] bcast_S1x1024_S16384x1024_0_1 (iotaInDim S1x1024 32 1)))

/-- The codes gathered at `i`, with the index wrapped and checked against the bounds. -/
def rows (e : FVec F S256x1024 .f32) (i : IVec S16384 32) : FVec F S16384x256 .f32 :=
  select (broadcastInDim S16384x256 ![0] bcast_S16384_S16384x256_0 (Host.reduce IntOp.andi (andi (cmpi .sge (broadcastInDim S16384x1 ![0] bcast_S16384_S16384x1_0 (select (cmpi .slt i (broadcastInDim S16384 ![] bcast_S_S16384 (constantI S_ 32 0#32))) (addi i (broadcastInDim S16384 ![] bcast_S_S16384 (constantI S_ 32 1024#32))) i)) (broadcastInDim S16384x1 ![] bcast_S_S16384x1 (constantI S_ 32 0#32))) (cmpi .sle (broadcastInDim S16384x1 ![0] bcast_S16384_S16384x1_0 (select (cmpi .slt i (broadcastInDim S16384 ![] bcast_S_S16384 (constantI S_ 32 0#32))) (addi i (broadcastInDim S16384 ![] bcast_S_S16384 (constantI S_ 32 1024#32))) i)) (broadcastInDim S16384x1 ![0, 1] bcast_S1x1_S16384x1_0_1 (broadcastInDim S1x1 ![1] bcast_S1_S1x1_1 (constantI S1 32 1023#32))))) (constantI S_ 1 1#1) reducesTo_S16384x1_S16384_d1 h_S_)) (Host.gather gather_S1024x256_S16384x1_S16384x256_1_0_n_n_0_1_1256 (transpose S1024x256 [1, 0] e transposes_S256x1024_S1024x256_1_0) (broadcastInDim S16384x1 ![0] bcast_S16384_S16384x1_0 (select (cmpi .slt i (broadcastInDim S16384 ![] bcast_S_S16384 (constantI S_ 32 0#32))) (addi i (broadcastInDim S16384 ![] bcast_S_S16384 (constantI S_ 32 1024#32))) i))) (broadcastInDim S16384x256 ![] bcast_S_S16384x256 (constant S_ .f32 0x7FC00000#32))

/-- The effective number of units of the marks `h` under the mask `m`. -/
def units (h : FVec F S16384x1024 .f32) (m : IVec S2048x8 1) : FVec F S_ .f32 :=
  Host.divf (constant S_ .f32 0x3F800000#32) (Host.reduceAdd (mulf (Host.divf (Host.reduceAdd (mulf h (broadcastInDim S16384x1024 ![0, 1] bcast_S16384x1_S16384x1024_0_1 (broadcastInDim S16384x1 ![0] bcast_S16384_S16384x1_0 (uitofp .f32 (shapeCast _ m shapeCasts_S2048x8_S16384))))) (constant S_ .f32 0x00000000#32) reducesTo_S16384x1024_S1024_d0 h_S_) (broadcastInDim S1024 ![] bcast_S_S1024 (maximumf (Host.reduceAdd (uitofp .f32 (shapeCast _ m shapeCasts_S2048x8_S16384)) (constant S_ .f32 0x00000000#32) reducesTo_S16384_S_d0 h_S_) (constant S_ .f32 0x3F800000#32)))) (Host.divf (Host.reduceAdd (mulf h (broadcastInDim S16384x1024 ![0, 1] bcast_S16384x1_S16384x1024_0_1 (broadcastInDim S16384x1 ![0] bcast_S16384_S16384x1_0 (uitofp .f32 (shapeCast _ m shapeCasts_S2048x8_S16384))))) (constant S_ .f32 0x00000000#32) reducesTo_S16384x1024_S1024_d0 h_S_) (broadcastInDim S1024 ![] bcast_S_S1024 (maximumf (Host.reduceAdd (uitofp .f32 (shapeCast _ m shapeCasts_S2048x8_S16384)) (constant S_ .f32 0x00000000#32) reducesTo_S16384_S_d0 h_S_) (constant S_ .f32 0x3F800000#32))))) (constant S_ .f32 0x00000000#32) reducesTo_S1024_S_d0 h_S_)

/-- The mean squared difference of the masked code and the masked input. -/
def diff (q : FVec F S2048x8x256 .f32) (m : IVec S2048x8 1) (x : FVec F S2048x8x256 .f32) : FVec F S_ .f32 :=
  Host.divf (Host.reduceAdd (mulf (subf (mulf q (broadcastInDim S2048x8x256 ![0, 1, 2] bcast_S2048x8x1_S2048x8x256_0_1_2 (broadcastInDim S2048x8x1 ![0, 1] bcast_S2048x8_S2048x8x1_0_1 (uitofp .f32 m)))) (mulf x (broadcastInDim S2048x8x256 ![0, 1, 2] bcast_S2048x8x1_S2048x8x256_0_1_2 (broadcastInDim S2048x8x1 ![0, 1] bcast_S2048x8_S2048x8x1_0_1 (uitofp .f32 m))))) (subf (mulf q (broadcastInDim S2048x8x256 ![0, 1, 2] bcast_S2048x8x1_S2048x8x256_0_1_2 (broadcastInDim S2048x8x1 ![0, 1] bcast_S2048x8_S2048x8x1_0_1 (uitofp .f32 m)))) (mulf x (broadcastInDim S2048x8x256 ![0, 1, 2] bcast_S2048x8x1_S2048x8x256_0_1_2 (broadcastInDim S2048x8x1 ![0, 1] bcast_S2048x8_S2048x8x1_0_1 (uitofp .f32 m)))))) (constant S_ .f32 0x00000000#32) reducesTo_S2048x8x256_S_d0_1_2 h_S_) (constant S_ .f32 0x4A800000#32)

/-- The masked input plus the difference of the masked code and the masked input. -/
def quant (q : FVec F S2048x8x256 .f32) (m : IVec S2048x8 1) (x : FVec F S2048x8x256 .f32) : FVec F S2048x8x256 .f32 :=
  addf (mulf x (broadcastInDim S2048x8x256 ![0, 1, 2] bcast_S2048x8x1_S2048x8x256_0_1_2 (broadcastInDim S2048x8x1 ![0, 1] bcast_S2048x8_S2048x8x1_0_1 (uitofp .f32 m)))) (subf (mulf q (broadcastInDim S2048x8x256 ![0, 1, 2] bcast_S2048x8x1_S2048x8x256_0_1_2 (broadcastInDim S2048x8x1 ![0, 1] bcast_S2048x8_S2048x8x1_0_1 (uitofp .f32 m)))) (mulf x (broadcastInDim S2048x8x256 ![0, 1, 2] bcast_S2048x8x1_S2048x8x256_0_1_2 (broadcastInDim S2048x8x1 ![0, 1] bcast_S2048x8_S2048x8x1_0_1 (uitofp .f32 m)))))

/-! ## The operations -/

/-- The distances and the arg-max over the codes. -/
abbrev opsA : List (HloOp τ sig (Elt F)) :=
  [ reshape main_arg0 main_v0 (rfl : (.f32 : EltTy) = .f32) shapeCasts_S2048x8x256_S16384x256,
    binary main_v0 main_v0 main_v1 (mulf : (⟨S16384x256, .f32⟩ : BufTy).Contents (Elt F) → (⟨S16384x256, .f32⟩ : BufTy).Contents (Elt F) → (⟨S16384x256, .f32⟩ : BufTy).Contents (Elt F)),
    nullary main_cst (constant S_ .f32 0x00000000#32),
    binary main_v1 main_cst main_v2 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    binary main_v0 main_arg2 main_v4 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_0 (constant S_ .f32 0x40000000#32),
    unary main_cst_0 main_v5 (broadcastInDim S16384x1024 ![] bcast_S_S16384x1024 : (⟨S_, .f32⟩ : BufTy).Contents (Elt F) → (⟨S16384x1024, .f32⟩ : BufTy).Contents (Elt F)),
    binary main_v5 main_v4 main_v6 (mulf : (⟨S16384x1024, .f32⟩ : BufTy).Contents (Elt F) → (⟨S16384x1024, .f32⟩ : BufTy).Contents (Elt F) → (⟨S16384x1024, .f32⟩ : BufTy).Contents (Elt F)),
    unary main_v3 main_v7 (broadcastInDim S16384x1024 ![0, 1] bcast_S16384x1_S16384x1024_0_1 : (⟨S16384x1, .f32⟩ : BufTy).Contents (Elt F) → (⟨S16384x1024, .f32⟩ : BufTy).Contents (Elt F)),
    binary main_v7 main_v6 main_v8 (subf : (⟨S16384x1024, .f32⟩ : BufTy).Contents (Elt F) → (⟨S16384x1024, .f32⟩ : BufTy).Contents (Elt F) → (⟨S16384x1024, .f32⟩ : BufTy).Contents (Elt F)),
    binary main_arg2 main_arg2 main_v9 (mulf : (⟨S256x1024, .f32⟩ : BufTy).Contents (Elt F) → (⟨S256x1024, .f32⟩ : BufTy).Contents (Elt F) → (⟨S256x1024, .f32⟩ : BufTy).Contents (Elt F)),
    nullary main_cst_1 (constant S_ .f32 0x00000000#32),
    binary main_v9 main_cst_1 main_v10 ((fun x v => Host.reduceAdd x v reducesTo_S256x1024_S1024_d0 h_S_) : (⟨S256x1024, .f32⟩ : BufTy).Contents (Elt F) → (⟨S_, .f32⟩ : BufTy).Contents (Elt F) → (⟨S1024, .f32⟩ : BufTy).Contents (Elt F)),
    unary main_v10 main_v11 (broadcastInDim S1x1024 ![1] bcast_S1024_S1x1024_1 : (⟨S1024, .f32⟩ : BufTy).Contents (Elt F) → (⟨S1x1024, .f32⟩ : BufTy).Contents (Elt F)),
    unary main_v11 main_v12 (broadcastInDim S16384x1024 ![0, 1] bcast_S1x1024_S16384x1024_0_1 : (⟨S1x1024, .f32⟩ : BufTy).Contents (Elt F) → (⟨S16384x1024, .f32⟩ : BufTy).Contents (Elt F)),
    binary main_v8 main_v12 main_v13 (addf : (⟨S16384x1024, .f32⟩ : BufTy).Contents (Elt F) → (⟨S16384x1024, .f32⟩ : BufTy).Contents (Elt F) → (⟨S16384x1024, .f32⟩ : BufTy).Contents (Elt F)),
    unary main_v13 main_v14 (Host.negf : (⟨S16384x1024, .f32⟩ : BufTy).Contents (Elt F) → (⟨S16384x1024, .f32⟩ : BufTy).Contents (Elt F)),
    TRef.nullary main_call0.v0 (iotaInDim S16384x1024 32 1),
    TRef.nullary main_call0.cst (constant S_ .f32 0xFF800000#32),
    TRef.nullary main_call0.c (constantI S_ 32 0#32),
    TRef.quaternary (.of main_v14) main_call0.v0 main_call0.cst main_call0.c main_call0.v1_0 (fun x y u v j => (Host.argReduce reducer_argmax_f32_i32 x y u v reducesTo_S16384x1024_S16384_d1 h_S_ j).1),
    TRef.quaternary (.of main_v14) main_call0.v0 main_call0.cst main_call0.c main_call0.v1_1 (fun x y u v j => (Host.argReduce reducer_argmax_f32_i32 x y u v reducesTo_S16384x1024_S16384_d1 h_S_ j).2) ]

/-- The one-hot marks and the gathered codes. -/
abbrev opsB : List (HloOp τ sig (Elt F)) :=
  [ TRef.unary (.of main_v15 : TRef sig ⟨S16384, .i32⟩) main_call1.v0 (broadcastInDim S16384x1 ![0] bcast_S16384_S16384x1_0),
    TRef.nullary main_call1.v1 (iotaInDim S1x1024 32 1),
    TRef.unary main_call1.v0 main_call1.v2 (broadcastInDim S16384x1024 ![0, 1] bcast_S16384x1_S16384x1024_0_1),
    TRef.unary main_call1.v1 main_call1.v3 (broadcastInDim S16384x1024 ![0, 1] bcast_S1x1024_S16384x1024_0_1),
    TRef.binary main_call1.v2 main_call1.v3 main_call1.v4 (cmpi .eq),
    TRef.unary main_call1.v4 main_call1.v5 (uitofp .f32),
    unary main_arg2 main_v17 ((transpose S1024x256 [1, 0] · transposes_S256x1024_S1024x256_1_0) : (⟨S256x1024, .f32⟩ : BufTy).Contents (Elt F) → (⟨S1024x256, .f32⟩ : BufTy).Contents (Elt F)),
    TRef.nullary main_call2.c (constantI S_ 32 0#32),
    TRef.unary main_call2.c main_call2.v0 (broadcastInDim S16384 ![] bcast_S_S16384),
    TRef.binary (.of main_v15 : TRef sig ⟨S16384, .i32⟩) main_call2.v0 main_call2.v1 (cmpi .slt),
    TRef.nullary main_call2.c_0 (constantI S_ 32 1024#32),
    TRef.unary main_call2.c_0 main_call2.v2 (broadcastInDim S16384 ![] bcast_S_S16384),
    TRef.binary (.of main_v15 : TRef sig ⟨S16384, .i32⟩) main_call2.v2 main_call2.v3 addi,
    TRef.ternary main_call2.v1 main_call2.v3 (.of main_v15 : TRef sig ⟨S16384, .i32⟩) main_call2.call0.v0 select,
    TRef.unary main_call2.call0.v0 main_call2.v5 (broadcastInDim S16384x1 ![0] bcast_S16384_S16384x1_0),
    TRef.nullary main_call2.c_1 (constantI S1 32 1023#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_v17) main_call2.v5 main_call2.v13 (fun x i => Host.gather gather_S1024x256_S16384x1_S16384x256_1_0_n_n_0_1_1256 x i),
    TRef.unary main_call2.v12 main_call2.v14 (broadcastInDim S16384x256 ![0] bcast_S16384_S16384x256_0),
    TRef.nullary main_call2.cst (constant S_ .f32 0x7FC00000#32),
    TRef.unary main_call2.cst main_call2.v15 (broadcastInDim S16384x256 ![] bcast_S_S16384x256),
    TRef.ternary main_call2.v14 main_call2.v13 main_call2.v15 main_call2.v16 select ]

/-- The gathered codes by batch, and the effective units. -/
abbrev opsC : List (HloOp τ sig (Elt F)) :=
  [ reshape main_v18 main_v19 (rfl : (.f32 : EltTy) = .f32) shapeCasts_S16384x256_S2048x8x256,
    reshape main_arg1 main_v20 (rfl : (.i1 : EltTy) = .i1) shapeCasts_S2048x8_S16384,
    unary main_v20 main_v21 (uitofp .f32 : (⟨S16384, .i1⟩ : BufTy).Contents (Elt F) → (⟨S16384, .f32⟩ : BufTy).Contents (Elt F)),
    unary main_v21 main_v22 (broadcastInDim S16384x1 ![0] bcast_S16384_S16384x1_0 : (⟨S16384, .f32⟩ : BufTy).Contents (Elt F) → (⟨S16384x1, .f32⟩ : BufTy).Contents (Elt F)),
    unary main_v22 main_v23 (broadcastInDim S16384x1024 ![0, 1] bcast_S16384x1_S16384x1024_0_1 : (⟨S16384x1, .f32⟩ : BufTy).Contents (Elt F) → (⟨S16384x1024, .f32⟩ : BufTy).Contents (Elt F)),
    binary main_v16 main_v23 main_v24 (mulf : (⟨S16384x1024, .f32⟩ : BufTy).Contents (Elt F) → (⟨S16384x1024, .f32⟩ : BufTy).Contents (Elt F) → (⟨S16384x1024, .f32⟩ : BufTy).Contents (Elt F)),
    nullary main_cst_2 (constant S_ .f32 0x00000000#32),
    binary main_v24 main_cst_2 main_v25 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_3 (constant S_ .f32 0x00000000#32),
    binary main_v21 main_cst_3 main_v26 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_4 (constant S_ .f32 0x3F800000#32),
    binary main_v26 main_cst_4 main_v27 (maximumf : (⟨S_, .f32⟩ : BufTy).Contents (Elt F) → (⟨S_, .f32⟩ : BufTy).Contents (Elt F) → (⟨S_, .f32⟩ : BufTy).Contents (Elt F)),
    unary main_v27 main_v28 (broadcastInDim S1024 ![] bcast_S_S1024 : (⟨S_, .f32⟩ : BufTy).Contents (Elt F) → (⟨S1024, .f32⟩ : BufTy).Contents (Elt F)),
    binary main_v25 main_v28 main_v29 (Host.divf : (⟨S1024, .f32⟩ : BufTy).Contents (Elt F) → (⟨S1024, .f32⟩ : BufTy).Contents (Elt F) → (⟨S1024, .f32⟩ : BufTy).Contents (Elt F)),
    binary main_v29 main_v29 main_v30 (mulf : (⟨S1024, .f32⟩ : BufTy).Contents (Elt F) → (⟨S1024, .f32⟩ : BufTy).Contents (Elt F) → (⟨S1024, .f32⟩ : BufTy).Contents (Elt F)),
    nullary main_cst_5 (constant S_ .f32 0x00000000#32),
    binary main_v30 main_cst_5 main_v31 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    nullary main_cst_6 (constant S_ .f32 0x3F800000#32),
    binary main_cst_6 main_v31 main_v32 (Host.divf : (⟨S_, .f32⟩ : BufTy).Contents (Elt F) → (⟨S_, .f32⟩ : BufTy).Contents (Elt F) → (⟨S_, .f32⟩ : BufTy).Contents (Elt F)) ]

/-- The masked difference and the straight-through result. -/
abbrev opsD : List (HloOp τ sig (Elt F)) :=
  [ unary main_arg1 main_v33 (uitofp .f32 : (⟨S2048x8, .i1⟩ : BufTy).Contents (Elt F) → (⟨S2048x8, .f32⟩ : BufTy).Contents (Elt F)),
    unary main_v33 main_v34 (broadcastInDim S2048x8x1 ![0, 1] bcast_S2048x8_S2048x8x1_0_1 : (⟨S2048x8, .f32⟩ : BufTy).Contents (Elt F) → (⟨S2048x8x1, .f32⟩ : BufTy).Contents (Elt F)),
    unary main_v34 main_v35 (broadcastInDim S2048x8x256 ![0, 1, 2] bcast_S2048x8x1_S2048x8x256_0_1_2 : (⟨S2048x8x1, .f32⟩ : BufTy).Contents (Elt F) → (⟨S2048x8x256, .f32⟩ : BufTy).Contents (Elt F)),
    binary main_v19 main_v35 main_v36 (mulf : (⟨S2048x8x256, .f32⟩ : BufTy).Contents (Elt F) → (⟨S2048x8x256, .f32⟩ : BufTy).Contents (Elt F) → (⟨S2048x8x256, .f32⟩ : BufTy).Contents (Elt F)),
    unary main_v33 main_v37 (broadcastInDim S2048x8x1 ![0, 1] bcast_S2048x8_S2048x8x1_0_1 : (⟨S2048x8, .f32⟩ : BufTy).Contents (Elt F) → (⟨S2048x8x1, .f32⟩ : BufTy).Contents (Elt F)),
    unary main_v37 main_v38 (broadcastInDim S2048x8x256 ![0, 1, 2] bcast_S2048x8x1_S2048x8x256_0_1_2 : (⟨S2048x8x1, .f32⟩ : BufTy).Contents (Elt F) → (⟨S2048x8x256, .f32⟩ : BufTy).Contents (Elt F)),
    binary main_arg0 main_v38 main_v39 (mulf : (⟨S2048x8x256, .f32⟩ : BufTy).Contents (Elt F) → (⟨S2048x8x256, .f32⟩ : BufTy).Contents (Elt F) → (⟨S2048x8x256, .f32⟩ : BufTy).Contents (Elt F)),
    binary main_v36 main_v39 main_v40 (subf : (⟨S2048x8x256, .f32⟩ : BufTy).Contents (Elt F) → (⟨S2048x8x256, .f32⟩ : BufTy).Contents (Elt F) → (⟨S2048x8x256, .f32⟩ : BufTy).Contents (Elt F)),
    binary main_v40 main_v40 main_v41 (mulf : (⟨S2048x8x256, .f32⟩ : BufTy).Contents (Elt F) → (⟨S2048x8x256, .f32⟩ : BufTy).Contents (Elt F) → (⟨S2048x8x256, .f32⟩ : BufTy).Contents (Elt F)),
    nullary main_cst_7 (constant S_ .f32 0x00000000#32),
    binary main_v41 main_cst_7 main_v42 ((fun x v => Host.reduceAdd x v reducesTo_S2048x8x256_S_d0_1_2 h_S_) : (⟨S2048x8x256, .f32⟩ : BufTy).Contents (Elt F) → (⟨S_, .f32⟩ : BufTy).Contents (Elt F) → (⟨S_, .f32⟩ : BufTy).Contents (Elt F)),
    nullary main_cst_8 (constant S_ .f32 0x4A800000#32),
    binary main_v42 main_cst_8 main_v43 (Host.divf : (⟨S_, .f32⟩ : BufTy).Contents (Elt F) → (⟨S_, .f32⟩ : BufTy).Contents (Elt F) → (⟨S_, .f32⟩ : BufTy).Contents (Elt F)),
    binary main_v36 main_v39 main_v44 (subf : (⟨S2048x8x256, .f32⟩ : BufTy).Contents (Elt F) → (⟨S2048x8x256, .f32⟩ : BufTy).Contents (Elt F) → (⟨S2048x8x256, .f32⟩ : BufTy).Contents (Elt F)),
    binary main_v39 main_v44 main_v45 (addf : (⟨S2048x8x256, .f32⟩ : BufTy).Contents (Elt F) → (⟨S2048x8x256, .f32⟩ : BufTy).Contents (Elt F) → (⟨S2048x8x256, .f32⟩ : BufTy).Contents (Elt F)) ]

/-- All of them, in order. -/
abbrev ops : List (HloOp τ sig (Elt F)) := opsA ++ (opsB ++ (opsC ++ opsD))

set_option maxRecDepth 8192 in
set_option maxHeartbeats 4000000 in
/-- The program is the sequence of its operations. -/
theorem main_eq (c : Dev nD) : main (F := F) c = seq ops := rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

set_option maxRecDepth 8192 in
set_option maxHeartbeats 4000000 in
/-- The operations of list A read and write buffers of the tensor core. -/
theorem opsA_sub : (opsA : List (HloOp τ sig (Elt F))).Forall fun op => op.bufs ⊆ tcRefs τ sig :=
  ⟨(reshape_bufs_sub ..), (binary_bufs_sub ..), (nullary_bufs_sub ..), (binary_bufs_sub ..), (unary_bufs_sub ..), (binary_bufs_sub ..), (nullary_bufs_sub ..), (unary_bufs_sub ..), (binary_bufs_sub ..), (unary_bufs_sub ..), (binary_bufs_sub ..), (binary_bufs_sub ..), (nullary_bufs_sub ..), (binary_bufs_sub ..), (unary_bufs_sub ..), (unary_bufs_sub ..), (binary_bufs_sub ..), (unary_bufs_sub ..), (nullary_bufs_sub ..), (nullary_bufs_sub ..), (nullary_bufs_sub ..), (quaternary_bufs_sub ..), (quaternary_bufs_sub ..)⟩

set_option maxRecDepth 8192 in
set_option maxHeartbeats 4000000 in
/-- The operations of list B read and write buffers of the tensor core. -/
theorem opsB_sub : (opsB : List (HloOp τ sig (Elt F))).Forall fun op => op.bufs ⊆ tcRefs τ sig :=
  ⟨(unary_bufs_sub ..), (nullary_bufs_sub ..), (unary_bufs_sub ..), (unary_bufs_sub ..), (binary_bufs_sub ..), (unary_bufs_sub ..), (unary_bufs_sub ..), (nullary_bufs_sub ..), (unary_bufs_sub ..), (binary_bufs_sub ..), (nullary_bufs_sub ..), (unary_bufs_sub ..), (binary_bufs_sub ..), (ternary_bufs_sub ..), (unary_bufs_sub ..), (nullary_bufs_sub ..), (nullary_bufs_sub ..), (unary_bufs_sub ..), (binary_bufs_sub ..), (unary_bufs_sub ..), (unary_bufs_sub ..), (binary_bufs_sub ..), (binary_bufs_sub ..), (nullary_bufs_sub ..), (binary_bufs_sub ..), (binary_bufs_sub ..), (unary_bufs_sub ..), (nullary_bufs_sub ..), (unary_bufs_sub ..), (ternary_bufs_sub ..)⟩

set_option maxRecDepth 8192 in
set_option maxHeartbeats 4000000 in
/-- The operations of list C read and write buffers of the tensor core. -/
theorem opsC_sub : (opsC : List (HloOp τ sig (Elt F))).Forall fun op => op.bufs ⊆ tcRefs τ sig :=
  ⟨(reshape_bufs_sub ..), (reshape_bufs_sub ..), (unary_bufs_sub ..), (unary_bufs_sub ..), (unary_bufs_sub ..), (binary_bufs_sub ..), (nullary_bufs_sub ..), (binary_bufs_sub ..), (nullary_bufs_sub ..), (binary_bufs_sub ..), (nullary_bufs_sub ..), (binary_bufs_sub ..), (unary_bufs_sub ..), (binary_bufs_sub ..), (binary_bufs_sub ..), (nullary_bufs_sub ..), (binary_bufs_sub ..), (nullary_bufs_sub ..), (binary_bufs_sub ..)⟩

set_option maxRecDepth 8192 in
set_option maxHeartbeats 4000000 in
/-- The operations of list D read and write buffers of the tensor core. -/
theorem opsD_sub : (opsD : List (HloOp τ sig (Elt F))).Forall fun op => op.bufs ⊆ tcRefs τ sig :=
  ⟨(unary_bufs_sub ..), (unary_bufs_sub ..), (unary_bufs_sub ..), (binary_bufs_sub ..), (unary_bufs_sub ..), (unary_bufs_sub ..), (binary_bufs_sub ..), (binary_bufs_sub ..), (binary_bufs_sub ..), (nullary_bufs_sub ..), (binary_bufs_sub ..), (nullary_bufs_sub ..), (binary_bufs_sub ..), (binary_bufs_sub ..), (binary_bufs_sub ..)⟩

/-- Every operation reads and writes buffers of the tensor core. -/
theorem ops_sub : (ops : List (HloOp τ sig (Elt F))).Forall fun op => op.bufs ⊆ tcRefs τ sig := by
  simp only [ops, List.forall_append]
  exact ⟨opsA_sub, opsB_sub, opsC_sub, opsD_sub⟩

/-! ## What each list leaves -/

section Stages

variable (V : Valuation τ sig (Elt F))

set_option maxRecDepth 8192 in
set_option maxHeartbeats 4000000 in
/-- The first list leaves the arg-max of the negated distances. -/
theorem A_index : after opsA V (Proc.devRef .tc main_v15) = nearest (negDist (V (Proc.devRef .tc main_arg0)) (V (Proc.devRef .tc main_arg2))) := by
  simp only [opsA, TRef.quaternary, TRef.binary, TRef.nullary, TRef.ternary, TRef.unary, TRef.toBuf, TRef.ofBuf, cast_eq]; after_results_simp <;> rfl

set_option maxRecDepth 8192 in
set_option maxHeartbeats 4000000 in
/-- The first list keeps argument 0. -/
theorem A_arg0 : after opsA V (Proc.devRef .tc main_arg0) = V (Proc.devRef .tc main_arg0) := by
  simp only [opsA, TRef.quaternary, TRef.binary, TRef.nullary, TRef.ternary, TRef.unary, TRef.toBuf, TRef.ofBuf, cast_eq]; after_results_simp <;> rfl

set_option maxRecDepth 8192 in
set_option maxHeartbeats 4000000 in
/-- The first list keeps argument 1. -/
theorem A_arg1 : after opsA V (Proc.devRef .tc main_arg1) = V (Proc.devRef .tc main_arg1) := by
  simp only [opsA, TRef.quaternary, TRef.binary, TRef.nullary, TRef.ternary, TRef.unary, TRef.toBuf, TRef.ofBuf, cast_eq]; after_results_simp <;> rfl

set_option maxRecDepth 8192 in
set_option maxHeartbeats 4000000 in
/-- The first list keeps argument 2. -/
theorem A_arg2 : after opsA V (Proc.devRef .tc main_arg2) = V (Proc.devRef .tc main_arg2) := by
  simp only [opsA, TRef.quaternary, TRef.binary, TRef.nullary, TRef.ternary, TRef.unary, TRef.toBuf, TRef.ofBuf, cast_eq]; after_results_simp <;> rfl

set_option maxRecDepth 8192 in
set_option maxHeartbeats 4000000 in
/-- The second list leaves the one-hot marks of the index. -/
theorem B_oneHot : after opsB V (Proc.devRef .tc main_v16) = oneHot (V (Proc.devRef .tc main_v15)) := by
  simp only [opsB, TRef.quaternary, TRef.binary, TRef.nullary, TRef.ternary, TRef.unary, TRef.toBuf, TRef.ofBuf, cast_eq]; after_results_simp <;> rfl

set_option maxRecDepth 8192 in
set_option maxHeartbeats 4000000 in
/-- The second list leaves the gathered codes. -/
theorem B_rows : after opsB V (Proc.devRef .tc main_v18) = rows (V (Proc.devRef .tc main_arg2)) (V (Proc.devRef .tc main_v15)) := by
  simp only [opsB, TRef.quaternary, TRef.binary, TRef.nullary, TRef.ternary, TRef.unary, TRef.toBuf, TRef.ofBuf, cast_eq]; after_results_simp <;> rfl

set_option maxRecDepth 8192 in
set_option maxHeartbeats 4000000 in
/-- The second list keeps the index. -/
theorem B_index : after opsB V (Proc.devRef .tc main_v15) = V (Proc.devRef .tc main_v15) := by
  simp only [opsB, TRef.quaternary, TRef.binary, TRef.nullary, TRef.ternary, TRef.unary, TRef.toBuf, TRef.ofBuf, cast_eq]; after_results_simp <;> rfl

set_option maxRecDepth 8192 in
set_option maxHeartbeats 4000000 in
/-- The second list keeps argument 0. -/
theorem B_arg0 : after opsB V (Proc.devRef .tc main_arg0) = V (Proc.devRef .tc main_arg0) := by
  simp only [opsB, TRef.quaternary, TRef.binary, TRef.nullary, TRef.ternary, TRef.unary, TRef.toBuf, TRef.ofBuf, cast_eq]; after_results_simp <;> rfl

set_option maxRecDepth 8192 in
set_option maxHeartbeats 4000000 in
/-- The second list keeps argument 1. -/
theorem B_arg1 : after opsB V (Proc.devRef .tc main_arg1) = V (Proc.devRef .tc main_arg1) := by
  simp only [opsB, TRef.quaternary, TRef.binary, TRef.nullary, TRef.ternary, TRef.unary, TRef.toBuf, TRef.ofBuf, cast_eq]; after_results_simp <;> rfl

set_option maxRecDepth 8192 in
set_option maxHeartbeats 4000000 in
/-- The second list keeps argument 2. -/
theorem B_arg2 : after opsB V (Proc.devRef .tc main_arg2) = V (Proc.devRef .tc main_arg2) := by
  simp only [opsB, TRef.quaternary, TRef.binary, TRef.nullary, TRef.ternary, TRef.unary, TRef.toBuf, TRef.ofBuf, cast_eq]; after_results_simp <;> rfl

set_option maxRecDepth 8192 in
set_option maxHeartbeats 4000000 in
/-- The third list leaves the gathered codes by batch. -/
theorem C_rows : after opsC V (Proc.devRef .tc main_v19) = shapeCast S2048x8x256 (V (Proc.devRef .tc main_v18) : FVec F S16384x256 .f32) shapeCasts_S16384x256_S2048x8x256 := by
  simp only [opsC, TRef.quaternary, TRef.binary, TRef.nullary, TRef.ternary, TRef.unary, TRef.toBuf, TRef.ofBuf, cast_eq]; after_results_simp <;> rfl

set_option maxRecDepth 8192 in
set_option maxHeartbeats 4000000 in
/-- The third list leaves the effective units. -/
theorem C_units : after opsC V (Proc.devRef .tc main_v32) = units (V (Proc.devRef .tc main_v16)) (V (Proc.devRef .tc main_arg1)) := by
  simp only [opsC, TRef.quaternary, TRef.binary, TRef.nullary, TRef.ternary, TRef.unary, TRef.toBuf, TRef.ofBuf, cast_eq]; after_results_simp <;> rfl

set_option maxRecDepth 8192 in
set_option maxHeartbeats 4000000 in
/-- The third list keeps the index. -/
theorem C_index : after opsC V (Proc.devRef .tc main_v15) = V (Proc.devRef .tc main_v15) := by
  simp only [opsC, TRef.quaternary, TRef.binary, TRef.nullary, TRef.ternary, TRef.unary, TRef.toBuf, TRef.ofBuf, cast_eq]; after_results_simp <;> rfl

set_option maxRecDepth 8192 in
set_option maxHeartbeats 4000000 in
/-- The third list keeps argument 0. -/
theorem C_arg0 : after opsC V (Proc.devRef .tc main_arg0) = V (Proc.devRef .tc main_arg0) := by
  simp only [opsC, TRef.quaternary, TRef.binary, TRef.nullary, TRef.ternary, TRef.unary, TRef.toBuf, TRef.ofBuf, cast_eq]; after_results_simp <;> rfl

set_option maxRecDepth 8192 in
set_option maxHeartbeats 4000000 in
/-- The third list keeps argument 1. -/
theorem C_arg1 : after opsC V (Proc.devRef .tc main_arg1) = V (Proc.devRef .tc main_arg1) := by
  simp only [opsC, TRef.quaternary, TRef.binary, TRef.nullary, TRef.ternary, TRef.unary, TRef.toBuf, TRef.ofBuf, cast_eq]; after_results_simp <;> rfl

set_option maxRecDepth 8192 in
set_option maxHeartbeats 4000000 in
/-- The third list keeps argument 2. -/
theorem C_arg2 : after opsC V (Proc.devRef .tc main_arg2) = V (Proc.devRef .tc main_arg2) := by
  simp only [opsC, TRef.quaternary, TRef.binary, TRef.nullary, TRef.ternary, TRef.unary, TRef.toBuf, TRef.ofBuf, cast_eq]; after_results_simp <;> rfl

set_option maxRecDepth 8192 in
set_option maxHeartbeats 4000000 in
/-- The last list leaves the mean squared difference. -/
theorem D_diff : after opsD V (Proc.devRef .tc main_v43) = diff (V (Proc.devRef .tc main_v19)) (V (Proc.devRef .tc main_arg1)) (V (Proc.devRef .tc main_arg0)) := by
  simp only [opsD, TRef.quaternary, TRef.binary, TRef.nullary, TRef.ternary, TRef.unary, TRef.toBuf, TRef.ofBuf, cast_eq]; after_results_simp <;> rfl

set_option maxRecDepth 8192 in
set_option maxHeartbeats 4000000 in
/-- The last list leaves the straight-through result. -/
theorem D_quant : after opsD V (Proc.devRef .tc main_v45) = quant (V (Proc.devRef .tc main_v19)) (V (Proc.devRef .tc main_arg1)) (V (Proc.devRef .tc main_arg0)) := by
  simp only [opsD, TRef.quaternary, TRef.binary, TRef.nullary, TRef.ternary, TRef.unary, TRef.toBuf, TRef.ofBuf, cast_eq]; after_results_simp <;> rfl

set_option maxRecDepth 8192 in
set_option maxHeartbeats 4000000 in
/-- The last list keeps the index. -/
theorem D_index : after opsD V (Proc.devRef .tc main_v15) = V (Proc.devRef .tc main_v15) := by
  simp only [opsD, TRef.quaternary, TRef.binary, TRef.nullary, TRef.ternary, TRef.unary, TRef.toBuf, TRef.ofBuf, cast_eq]; after_results_simp <;> rfl

set_option maxRecDepth 8192 in
set_option maxHeartbeats 4000000 in
/-- The last list keeps the effective units. -/
theorem D_units : after opsD V (Proc.devRef .tc main_v32) = V (Proc.devRef .tc main_v32) := by
  simp only [opsD, TRef.quaternary, TRef.binary, TRef.nullary, TRef.ternary, TRef.unary, TRef.toBuf, TRef.ofBuf, cast_eq]; after_results_simp <;> rfl

set_option maxRecDepth 8192 in
set_option maxHeartbeats 4000000 in
/-- The last list keeps argument 0. -/
theorem D_arg0 : after opsD V (Proc.devRef .tc main_arg0) = V (Proc.devRef .tc main_arg0) := by
  simp only [opsD, TRef.quaternary, TRef.binary, TRef.nullary, TRef.ternary, TRef.unary, TRef.toBuf, TRef.ofBuf, cast_eq]; after_results_simp <;> rfl

set_option maxRecDepth 8192 in
set_option maxHeartbeats 4000000 in
/-- The last list keeps argument 1. -/
theorem D_arg1 : after opsD V (Proc.devRef .tc main_arg1) = V (Proc.devRef .tc main_arg1) := by
  simp only [opsD, TRef.quaternary, TRef.binary, TRef.nullary, TRef.ternary, TRef.unary, TRef.toBuf, TRef.ofBuf, cast_eq]; after_results_simp <;> rfl

set_option maxRecDepth 8192 in
set_option maxHeartbeats 4000000 in
/-- The last list keeps argument 2. -/
theorem D_arg2 : after opsD V (Proc.devRef .tc main_arg2) = V (Proc.devRef .tc main_arg2) := by
  simp only [opsD, TRef.quaternary, TRef.binary, TRef.nullary, TRef.ternary, TRef.unary, TRef.toBuf, TRef.ofBuf, cast_eq]; after_results_simp <;> rfl

/-- Running one list after another. -/
theorem after_two (l₁ l₂ : List (HloOp τ sig (Elt F))) : after (l₁ ++ l₂) V = after l₂ (after l₁ V) := by
  induction l₁ generalizing V with
  | nil => rfl
  | cons op l ih => exact ih _

/-- All four lists, in turn. -/
theorem after_ops : after ops V = after opsD (after opsC (after opsB (after opsA V))) := by
  rw [ops, after_two, after_two, after_two]

end Stages

/-! ## The run -/

/-- The index of the nearest code of each row. -/
def index (x : FVec F S2048x8x256 .f32) (e : FVec F S256x1024 .f32) : IVec S16384 32 := nearest (negDist x e)

/-- The nearest codes by batch. -/
def codes (x : FVec F S2048x8x256 .f32) (e : FVec F S256x1024 .f32) : FVec F S2048x8x256 .f32 :=
  shapeCast S2048x8x256 (rows e (index x e)) shapeCasts_S16384x256_S2048x8x256

/-- On every device every weakly fair execution terminates with the four results at their functions of the arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v45)
          = quant (codes (m ((c.tc : Thread nD τ).loc main_arg0)) (m ((c.tc : Thread nD τ).loc main_arg2)))
              (m ((c.tc : Thread nD τ).loc main_arg1)) (m ((c.tc : Thread nD τ).loc main_arg0))
        ∧ r.2.mem ((c.tc : Thread nD τ).loc main_v43)
          = diff (codes (m ((c.tc : Thread nD τ).loc main_arg0)) (m ((c.tc : Thread nD τ).loc main_arg2)))
              (m ((c.tc : Thread nD τ).loc main_arg1)) (m ((c.tc : Thread nD τ).loc main_arg0))
        ∧ r.2.mem ((c.tc : Thread nD τ).loc main_v15)
          = index (m ((c.tc : Thread nD τ).loc main_arg0)) (m ((c.tc : Thread nD τ).loc main_arg2))
        ∧ r.2.mem ((c.tc : Thread nD τ).loc main_v32)
          = units (oneHot (index (m ((c.tc : Thread nD τ).loc main_arg0)) (m ((c.tc : Thread nD τ).loc main_arg2))))
              (m ((c.tc : Thread nD τ).loc main_arg1)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c => ⟨⟨
      (h c main_v45).trans (by rw [after_ops, D_quant, C_rows, C_arg1, C_arg0, B_rows, B_arg1, B_arg0, A_index, A_arg0, A_arg1, A_arg2]; rfl),
      (h c main_v43).trans (by rw [after_ops, D_diff, C_rows, C_arg1, C_arg0, B_rows, B_arg1, B_arg0, A_index, A_arg0, A_arg1, A_arg2]; rfl),
      (h c main_v15).trans (by rw [after_ops, D_index, C_index, B_index, A_index]; rfl),
      (h c main_v32).trans (by rw [after_ops, D_units, C_units, B_oneHot, B_arg1, A_index, A_arg1]; rfl)⟩,
      (h c main_arg0).trans (by rw [after_ops, D_arg0, C_arg0, B_arg0, A_arg0]),
      (h c main_arg1).trans (by rw [after_ops, D_arg1, C_arg1, B_arg1, A_arg1]),
      (h c main_arg2).trans (by rw [after_ops, D_arg2, C_arg2, B_arg2, A_arg2])⟩)
    (run_seq scopedRefs_eq scopedSems_eq defs main (fun _ => ops) main_eq (fun _ => ops_sub) m ρ)

end Cert.ReferenceIdeal.Hand

end
-- ==== Proof.KernelBody.lean ====
/- What one run of the kernel's body leaves in its staging and scratch buffers, in each of the grid's three cases (first
   point A, middle points B, last point C): the stores' payloads over the blocks read. -/
module

public import proofs.«01_k».proof.Proof.Gen.KernelIdeal.Frame
public import Idealize.ShloMosaic.Lib.Pipeline.Value
public import Idealize.ShloMosaic.Lib.Tactic

@[expose] public section

noncomputable section

namespace Cert.KernelIdeal.Hand

open Cert.KernelIdeal Cert.KernelIdeal.Gen Idealize.ShloMosaic Idealize.ShloMosaic.TcCoe Idealize.SL.Sem

variable {F : FTy → Type} [FloatOps F]

/-! ## The stored values -/

/-- The block of masked nearest codes. -/
def codesBlock (x : Vec F S2048x256 .f32) (w : Vec F S1x1x2048 .f32) (e : Vec F S256x1024 .f32)
    (b : Vec F S256x1024 .bf16) : Vec F S2048x256 .f32 :=
  k0_pay1 (k0_pay9 w) (k0_pay15 x e) (k0_pay16 b) (constant S2048x256 .f32 0x00000000#32)

/-- The block of nearest code numbers. -/
def indexBlock (x : Vec F S2048x256 .f32) (e : Vec F S256x1024 .f32) : Vec F S1x1x2048 .i32 := k0_pay2 (k0_pay14 x e)

/-- The code counts after a block, from the counts before it. -/
def countStep (x : Vec F S2048x256 .f32) (w : Vec F S1x1x2048 .f32) (e : Vec F S256x1024 .f32)
    (s : Vec F S1x1024 .f32) : Vec F S1x1024 .f32 := k0_pay3 (k0_pay9 w) (k0_pay15 x e) s

/-- The lane sums of masked least distances after a block, from those before it. -/
def distStep (x : Vec F S2048x256 .f32) (w : Vec F S1x1x2048 .f32) (e : Vec F S256x1024 .f32)
    (s : Vec F S1x2048 .f32) : Vec F S1x2048 .f32 := k0_pay4 (k0_pay9 w) (k0_pay12 x e) s

/-- Two zero offsets. -/
theorem off2 : (![0, 0] : Fin 2 → Nat) = fun _ => 0 := funext fun a => by fin_cases a <;> rfl

/-- Three zero offsets. -/
theorem off3 : (![0, 0, 0] : Fin 3 → Nat) = fun _ => 0 := funext fun a => by fin_cases a <;> rfl

/-! ## The cases -/

section Cases

variable (c : Dev nD) (i : grid0.Coords)

variable (a1 : Memref sig .tc .vmem S2048x256 .f32) (h1 : a1.IsWhole)
  (a2 : Memref sig .tc .vmem S1x1x2048 .f32) (h2 : a2.IsWhole)
  (a3 : Memref sig .tc .vmem S256x1024 .f32) (h3 : a3.IsWhole)
  (a4 : Memref sig .tc .vmem S256x1024 .bf16) (h4 : a4.IsWhole)
  (a5 : Memref sig .tc .vmem S2048x256 .f32) (h5 : a5.IsWhole)
  (a6 : Memref sig .tc .vmem S1x1x2048 .i32) (h6 : a6.IsWhole)
  (a7 : Memref sig .tc .vmem S1x1 .f32) (h7 : a7.IsWhole)
  (a8 : Memref sig .tc .vmem S1x1 .f32) (h8 : a8.IsWhole)
  (a9 : Memref sig .tc .vmem S1x1024 .f32) (h9 : a9.IsWhole)
  (a10 : Memref sig .tc .vmem S1x2048 .f32) (h10 : a10.IsWhole)
variable (x : Vec F S2048x256 .f32) (w : Vec F S1x1x2048 .f32) (e : Vec F S256x1024 .f32) (b : Vec F S256x1024 .bf16)
  (s : Vec F S1x1024 .f32) (d : Vec F S1x2048 .f32)

/-- At the first point the body stores the masked nearest codes. -/
theorem codes_A (hc0 : cond0_0 i) (hc1 : ¬cond0_1 i) :
    out0_A_4 c i a1 h1 a2 h2 a3 h3 a4 h4 a5 h5 a6 h6 a7 h7 a8 h8 a9 h9 a10 h10 hc0 hc1 x w e b = codesBlock x w e b := by
  unfold out0_A_4
  rw [View.read_writes_eq_canon _ _ _ (cover0_A_4 c i a1 h1 a2 h2 a3 h3 a4 h4 a5 h5 a6 h6 a7 h7 a8 h8 a9 h9 a10 h10 hc0 hc1 x w e b)]
  unfold kernelRun0_A
  dsimp only
  sl_unfold_words
  rw [View.canon_unit_zero (S := S2048x256) off2]
  unfold codesBlock
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

/-- At the first point the body stores the nearest code numbers. -/
theorem index_A (hc0 : cond0_0 i) (hc1 : ¬cond0_1 i) :
    out0_A_5 c i a1 h1 a2 h2 a3 h3 a4 h4 a5 h5 a6 h6 a7 h7 a8 h8 a9 h9 a10 h10 hc0 hc1 x w e b = indexBlock x e := by
  unfold out0_A_5
  rw [View.read_writes_eq_canon _ _ _ (cover0_A_5 c i a1 h1 a2 h2 a3 h3 a4 h4 a5 h5 a6 h6 a7 h7 a8 h8 a9 h9 a10 h10 hc0 hc1 x w e b)]
  unfold kernelRun0_A
  dsimp only
  sl_unfold_words
  rw [View.canon_unit_zero (S := S1x1x2048) off3]
  unfold indexBlock
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

/-- At the first point the counts start from zero. -/
theorem count_A (hc0 : cond0_0 i) (hc1 : ¬cond0_1 i) :
    sout0_A_0 c i a1 h1 a2 h2 a3 h3 a4 h4 a5 h5 a6 h6 a7 h7 a8 h8 a9 h9 a10 h10 hc0 hc1 x w e b = countStep x w e k0_pay7 := by
  unfold sout0_A_0
  rw [View.read_writes_eq_canon _ _ _ (scover0_A_0 c i a1 h1 a2 h2 a3 h3 a4 h4 a5 h5 a6 h6 a7 h7 a8 h8 a9 h9 a10 h10 hc0 hc1 x w e b)]
  unfold kernelRun0_A
  dsimp only
  sl_unfold_words
  rw [View.canon_cons_unit_zero (S := S1x1024) off2, View.readCov_unit_zero (S := S1x1024) _ off2]
  unfold countStep
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

/-- At the first point the distance sums start from zero. -/
theorem dist_A (hc0 : cond0_0 i) (hc1 : ¬cond0_1 i) :
    sout0_A_1 c i a1 h1 a2 h2 a3 h3 a4 h4 a5 h5 a6 h6 a7 h7 a8 h8 a9 h9 a10 h10 hc0 hc1 x w e b = distStep x w e k0_pay8 := by
  unfold sout0_A_1
  rw [View.read_writes_eq_canon _ _ _ (scover0_A_1 c i a1 h1 a2 h2 a3 h3 a4 h4 a5 h5 a6 h6 a7 h7 a8 h8 a9 h9 a10 h10 hc0 hc1 x w e b)]
  unfold kernelRun0_A
  dsimp only
  sl_unfold_words
  rw [View.canon_cons_unit_zero (S := S1x2048) off2, View.readCov_unit_zero (S := S1x2048) _ off2]
  unfold distStep
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

/-- At a middle point the body stores the masked nearest codes. -/
theorem codes_B (hc0 : ¬cond0_0 i) (hc1 : ¬cond0_1 i) :
    out0_B_4 c i a1 h1 a2 h2 a3 h3 a4 h4 a5 h5 a6 h6 a7 h7 a8 h8 a9 h9 a10 h10 hc0 hc1 x w e b s d = codesBlock x w e b := by
  unfold out0_B_4
  rw [View.read_writes_eq_canon _ _ _ (cover0_B_4 c i a1 h1 a2 h2 a3 h3 a4 h4 a5 h5 a6 h6 a7 h7 a8 h8 a9 h9 a10 h10 hc0 hc1 x w e b s d)]
  unfold kernelRun0_B
  dsimp only
  sl_unfold_words
  rw [View.canon_unit_zero (S := S2048x256) off2]
  unfold codesBlock
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

/-- At a middle point the body stores the nearest code numbers. -/
theorem index_B (hc0 : ¬cond0_0 i) (hc1 : ¬cond0_1 i) :
    out0_B_5 c i a1 h1 a2 h2 a3 h3 a4 h4 a5 h5 a6 h6 a7 h7 a8 h8 a9 h9 a10 h10 hc0 hc1 x w e b s d = indexBlock x e := by
  unfold out0_B_5
  rw [View.read_writes_eq_canon _ _ _ (cover0_B_5 c i a1 h1 a2 h2 a3 h3 a4 h4 a5 h5 a6 h6 a7 h7 a8 h8 a9 h9 a10 h10 hc0 hc1 x w e b s d)]
  unfold kernelRun0_B
  dsimp only
  sl_unfold_words
  rw [View.canon_unit_zero (S := S1x1x2048) off3]
  unfold indexBlock
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

/-- At a middle point the counts grow by the block. -/
theorem count_B (hc0 : ¬cond0_0 i) (hc1 : ¬cond0_1 i) :
    sout0_B_0 c i a1 h1 a2 h2 a3 h3 a4 h4 a5 h5 a6 h6 a7 h7 a8 h8 a9 h9 a10 h10 hc0 hc1 x w e b s d = countStep x w e s := by
  unfold sout0_B_0
  rw [View.read_writes_eq_canon _ _ _ (scover0_B_0 c i a1 h1 a2 h2 a3 h3 a4 h4 a5 h5 a6 h6 a7 h7 a8 h8 a9 h9 a10 h10 hc0 hc1 x w e b s d)]
  unfold kernelRun0_B
  dsimp only
  sl_unfold_words
  rw [View.canon_unit_zero (S := S1x1024) off2]
  unfold countStep
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

/-- At a middle point the distance sums grow by the block. -/
theorem dist_B (hc0 : ¬cond0_0 i) (hc1 : ¬cond0_1 i) :
    sout0_B_1 c i a1 h1 a2 h2 a3 h3 a4 h4 a5 h5 a6 h6 a7 h7 a8 h8 a9 h9 a10 h10 hc0 hc1 x w e b s d = distStep x w e d := by
  unfold sout0_B_1
  rw [View.read_writes_eq_canon _ _ _ (scover0_B_1 c i a1 h1 a2 h2 a3 h3 a4 h4 a5 h5 a6 h6 a7 h7 a8 h8 a9 h9 a10 h10 hc0 hc1 x w e b s d)]
  unfold kernelRun0_B
  dsimp only
  sl_unfold_words
  rw [View.canon_unit_zero (S := S1x2048) off2]
  unfold distStep
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

/-- At the last point the body stores the masked nearest codes. -/
theorem codes_C (hc0 : ¬cond0_0 i) (hc1 : cond0_1 i) :
    out0_C_4 c i a1 h1 a2 h2 a3 h3 a4 h4 a5 h5 a6 h6 a7 h7 a8 h8 a9 h9 a10 h10 hc0 hc1 x w e b s d = codesBlock x w e b := by
  unfold out0_C_4
  rw [View.read_writes_eq_canon _ _ _ (cover0_C_4 c i a1 h1 a2 h2 a3 h3 a4 h4 a5 h5 a6 h6 a7 h7 a8 h8 a9 h9 a10 h10 hc0 hc1 x w e b s d)]
  unfold kernelRun0_C
  dsimp only
  sl_unfold_words
  rw [View.canon_unit_zero (S := S2048x256) off2]
  unfold codesBlock
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

/-- At the last point the body stores the nearest code numbers. -/
theorem index_C (hc0 : ¬cond0_0 i) (hc1 : cond0_1 i) :
    out0_C_5 c i a1 h1 a2 h2 a3 h3 a4 h4 a5 h5 a6 h6 a7 h7 a8 h8 a9 h9 a10 h10 hc0 hc1 x w e b s d = indexBlock x e := by
  unfold out0_C_5
  rw [View.read_writes_eq_canon _ _ _ (cover0_C_5 c i a1 h1 a2 h2 a3 h3 a4 h4 a5 h5 a6 h6 a7 h7 a8 h8 a9 h9 a10 h10 hc0 hc1 x w e b s d)]
  unfold kernelRun0_C
  dsimp only
  sl_unfold_words
  rw [View.canon_unit_zero (S := S1x1x2048) off3]
  unfold indexBlock
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

/-- At the last point the counts grow by the block. -/
theorem count_C (hc0 : ¬cond0_0 i) (hc1 : cond0_1 i) :
    sout0_C_0 c i a1 h1 a2 h2 a3 h3 a4 h4 a5 h5 a6 h6 a7 h7 a8 h8 a9 h9 a10 h10 hc0 hc1 x w e b s d = countStep x w e s := by
  unfold sout0_C_0
  rw [View.read_writes_eq_canon _ _ _ (scover0_C_0 c i a1 h1 a2 h2 a3 h3 a4 h4 a5 h5 a6 h6 a7 h7 a8 h8 a9 h9 a10 h10 hc0 hc1 x w e b s d)]
  unfold kernelRun0_C
  dsimp only
  sl_unfold_words
  rw [View.canon_unit_zero (S := S1x1024) off2]
  unfold countStep
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

/-- At the last point the distance sums grow by the block. -/
theorem dist_C (hc0 : ¬cond0_0 i) (hc1 : cond0_1 i) :
    sout0_C_1 c i a1 h1 a2 h2 a3 h3 a4 h4 a5 h5 a6 h6 a7 h7 a8 h8 a9 h9 a10 h10 hc0 hc1 x w e b s d = distStep x w e d := by
  unfold sout0_C_1
  rw [View.read_writes_eq_canon _ _ _ (scover0_C_1 c i a1 h1 a2 h2 a3 h3 a4 h4 a5 h5 a6 h6 a7 h7 a8 h8 a9 h9 a10 h10 hc0 hc1 x w e b s d)]
  unfold kernelRun0_C
  dsimp only
  sl_unfold_words
  rw [View.canon_unit_zero (S := S1x2048) off2]
  unfold distStep
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

/-- At the last point the body stores the mean of the distance sums. -/
theorem mean_C (hc0 : ¬cond0_0 i) (hc1 : cond0_1 i) :
    out0_C_6 c i a1 h1 a2 h2 a3 h3 a4 h4 a5 h5 a6 h6 a7 h7 a8 h8 a9 h9 a10 h10 hc0 hc1 x w e b s d = k0_pay5 (distStep x w e d) := by
  unfold out0_C_6
  rw [View.read_writes_eq_canon _ _ _ (cover0_C_6 c i a1 h1 a2 h2 a3 h3 a4 h4 a5 h5 a6 h6 a7 h7 a8 h8 a9 h9 a10 h10 hc0 hc1 x w e b s d)]
  unfold kernelRun0_C
  dsimp only
  sl_unfold_words
  rw [View.canon_unit_zero (S := S1x1) off2, View.readCov_unit_zero (S := S1x2048) _ off2]
  unfold distStep
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

/-- At the last point the body stores the effective units of the counts. -/
theorem units_C (hc0 : ¬cond0_0 i) (hc1 : cond0_1 i) :
    out0_C_7 c i a1 h1 a2 h2 a3 h3 a4 h4 a5 h5 a6 h6 a7 h7 a8 h8 a9 h9 a10 h10 hc0 hc1 x w e b s d = k0_pay6 (countStep x w e s) (countStep x w e s) := by
  unfold out0_C_7
  rw [View.read_writes_eq_canon _ _ _ (cover0_C_7 c i a1 h1 a2 h2 a3 h3 a4 h4 a5 h5 a6 h6 a7 h7 a8 h8 a9 h9 a10 h10 hc0 hc1 x w e b s d)]
  unfold kernelRun0_C
  dsimp only
  sl_unfold_words
  rw [View.canon_unit_zero (S := S1x1) off2, View.readCov_unit_zero (S := S1x1024) _ off2]
  unfold countStep
  simp only [View.readAt_eq_ld, h1.read_unread, h2.read_unread, h3.read_unread, h4.read_unread, h9.read_unread, h10.read_unread, View.ld_unit_zero (S := S2048x256) off2,
    View.ld_unit_zero (S := S1x1x2048) off3, View.ld_unit_zero (S := S256x1024) off2,
    View.ld_unit_zero (S := S1x1024) off2, View.ld_unit_zero (S := S1x2048) off2, shapeCast_self]

end Cases

end Cert.KernelIdeal.Hand

end
-- ==== Proof.Nearest.lean ====
/- The nearest code of a row over the extended reals: the squared distances, their least value, the first code that
   attains it, and the two ways the programs find its number (the least marked number; a fold over value-number pairs). -/
module

public import Idealize.ShloMosaic.Lib.Pointwise

@[expose] public section

noncomputable section

namespace Vq

/-- The squared distance of the row `x` from code `k`, expanded: squares of the row, less twice the product, plus squares
    of the code. -/
def dist (x : Fin 256 → EReal) (e : Fin 256 → Fin 1024 → EReal) (k : Fin 1024) : EReal :=
  ((∑ d, x d * x d) - 2 * ∑ d, x d * e d k) + ∑ d, e d k * e d k

/-- The least of the 1024 values. -/
def least (f : Fin 1024 → EReal) : EReal := Finset.univ.fold min ⊤ f

/-- The least value is at most each value. -/
theorem least_le (f : Fin 1024 → EReal) (k : Fin 1024) : least f ≤ f k :=
  (Finset.le_fold_min (c := least f)).1 le_rfl |>.2 k (Finset.mem_univ k)

/-- Some code attains the least value. -/
theorem exists_least (f : Fin 1024 → EReal) : ∃ k, f k ≤ least f := by
  obtain ⟨k, -, hk⟩ := Finset.exists_min_image (Finset.univ : Finset (Fin 1024)) f ⟨0, Finset.mem_univ 0⟩
  exact ⟨k, (Finset.le_fold_min (c := f k)).2 ⟨le_top, fun j hj => hk j hj⟩⟩

/-- The codes that attain the least value. -/
def attaining (f : Fin 1024 → EReal) : Finset (Fin 1024) := Finset.univ.filter fun k => f k ≤ least f

/-- Some code is among those that attain the least value. -/
theorem attaining_nonempty (f : Fin 1024 → EReal) : (attaining f).Nonempty :=
  (exists_least f).imp fun _ h => Finset.mem_filter.2 ⟨Finset.mem_univ _, h⟩

/-- The first code that attains the least value. -/
def nearest (f : Fin 1024 → EReal) : Fin 1024 := (attaining f).min' (attaining_nonempty f)

/-- The nearest code's value is at most the least one. -/
theorem nearest_attains (f : Fin 1024 → EReal) : f (nearest f) ≤ least f :=
  (Finset.mem_filter.1 ((attaining f).min'_mem (attaining_nonempty f))).2

/-- The value at the nearest code is the least one. -/
theorem at_nearest (f : Fin 1024 → EReal) : f (nearest f) = least f := le_antisymm (nearest_attains f) (least_le f _)

/-- No earlier code attains it. -/
theorem nearest_le (f : Fin 1024 → EReal) (k : Fin 1024) (h : f k ≤ least f) : nearest f ≤ k :=
  (attaining f).min'_le k (Finset.mem_filter.2 ⟨Finset.mem_univ k, h⟩)

/-- The least number among those of the attaining codes, the others marked 1024, is the nearest code's. -/
theorem fold_marked (f : Fin 1024 → EReal) :
    Finset.univ.fold min ⊤ (fun k : Fin 1024 => if f k ≤ least f then ((k.val : ℝ) : EReal) else ((1024 : ℝ) : EReal))
      = (((nearest f).val : ℝ) : EReal) := by
  apply le_antisymm
  · have h := (Finset.le_fold_min (s := Finset.univ) (b := (⊤ : EReal))
      (f := fun k : Fin 1024 => if f k ≤ least f then ((k.val : ℝ) : EReal) else ((1024 : ℝ) : EReal)) _).1 le_rfl
    refine (h.2 (nearest f) (Finset.mem_univ _)).trans_eq ?_
    rw [if_pos (nearest_attains f)]
  · refine (Finset.le_fold_min _).2 ⟨le_top, fun k _ => ?_⟩
    split_ifs with hk
    · exact EReal.coe_le_coe_iff.2 (by exact_mod_cast nearest_le f k hk)
    · exact EReal.coe_le_coe_iff.2 (by exact_mod_cast (nearest f).isLt.le)

/-! ## The arg-max as a fold over pairs -/

/-- The pair `p` comes before `q`: a greater value, or the same value and no greater number. -/
def Before (p q : EReal × BitVec 32) : Prop := q.1 < p.1 ∨ (p.1 = q.1 ∧ p.2.toInt ≤ q.2.toInt)

/-- Coming before is transitive. -/
theorem Before.trans {p q r : EReal × BitVec 32} (h : Before p q) (h' : Before q r) : Before p r := by
  rcases h with h | ⟨h, g⟩ <;> rcases h' with h' | ⟨h', g'⟩
  · exact .inl (h'.trans h)
  · exact .inl (h' ▸ h)
  · exact .inl (h ▸ h')
  · exact .inr ⟨h.trans h', g.trans g'⟩

/-- Each pair comes before itself. -/
theorem Before.refl (p : EReal × BitVec 32) : Before p p := .inr ⟨rfl, le_rfl⟩

/-- A fold that keeps, of two pairs, one that comes before both ends at a pair of the list, or the initial one, that
    comes before all of them. -/
theorem foldl_before (r : EReal × BitVec 32 → EReal × BitVec 32 → EReal × BitVec 32)
    (hr : ∀ a b, (r a b = a ∧ Before a b) ∨ (r a b = b ∧ Before b a)) (l : List (EReal × BitVec 32))
    (p : EReal × BitVec 32) :
    l.foldl r p ∈ p :: l ∧ ∀ q ∈ p :: l, Before (l.foldl r p) q := by
  induction l generalizing p with
  | nil => exact ⟨List.mem_cons_self, fun q hq => by rw [List.mem_singleton.1 hq]; exact Before.refl _⟩
  | cons a l ih =>
    obtain ⟨h₁, h₂⟩ := ih (r p a)
    have hs := h₂ _ List.mem_cons_self
    rcases hr p a with ⟨e, g⟩ | ⟨e, g⟩ <;> simp only [List.foldl_cons] <;> rw [e] at h₁ h₂ hs ⊢
    · refine ⟨?_, ?_⟩
      · rcases List.mem_cons.1 h₁ with h | h
        · rw [h]; exact List.mem_cons_self
        · exact List.mem_cons_of_mem _ (List.mem_cons_of_mem _ h)
      · intro q hq
        rcases List.mem_cons.1 hq with rfl | hq
        · exact hs
        rcases List.mem_cons.1 hq with rfl | hq
        · exact hs.trans g
        · exact h₂ q (List.mem_cons_of_mem _ hq)
    · refine ⟨List.mem_cons_of_mem _ h₁, ?_⟩
      intro q hq
      rcases List.mem_cons.1 hq with rfl | hq
      · exact hs.trans g
      · exact h₂ q hq

/-- A code's number as a word, read back. -/
theorem toInt_number (k : Fin 1024) : (BitVec.ofNat 32 k.val).toInt = (k.val : ℤ) := by
  have h := k.isLt
  rw [BitVec.toInt_eq_toNat_cond, BitVec.toNat_ofNat, Nat.mod_eq_of_lt (by omega), if_pos (by omega)]

/-- Over the pairs of the negated values and the codes' numbers, from the pair of `⊥` and 0, such a fold ends at the
    nearest code's number. -/
theorem foldl_nearest (r : EReal × BitVec 32 → EReal × BitVec 32 → EReal × BitVec 32)
    (hr : ∀ a b, (r a b = a ∧ Before a b) ∨ (r a b = b ∧ Before b a)) (f : Fin 1024 → EReal)
    (l : List (EReal × BitVec 32)) (hl : ∀ q, q ∈ l ↔ ∃ k : Fin 1024, q = (-f k, BitVec.ofNat 32 k.val)) :
    (l.foldl r (⊥, 0#32)).2 = BitVec.ofNat 32 (nearest f).val := by
  obtain ⟨h₁, h₂⟩ := foldl_before r hr l (⊥, 0#32)
  have hn := h₂ _ (List.mem_cons_of_mem _ ((hl _).2 ⟨nearest f, rfl⟩))
  rcases List.mem_cons.1 h₁ with h | h
  · rw [h] at hn ⊢
    have hb : -f (nearest f) = ⊥ := by
      rcases hn with hn | ⟨hn, -⟩
      · exact absurd hn not_lt_bot
      · exact hn.symm
    have ht : least f = ⊤ := by rw [← at_nearest]; exact EReal.neg_eq_bot_iff.1 hb
    have h0 : nearest f = 0 := le_antisymm (nearest_le f 0 (by rw [ht]; exact le_top)) (Fin.zero_le _)
    rw [h0]; rfl
  · obtain ⟨k, hk⟩ := (hl _).1 h
    rw [hk] at hn ⊢
    rcases hn with hn | ⟨hn, hle⟩
    · refine absurd hn (not_lt.2 ?_)
      exact EReal.neg_le_neg_iff.2 ((nearest_attains f).trans (least_le f k))
    · have he : f k = f (nearest f) := neg_injective hn
      have h1 : nearest f ≤ k := nearest_le f k (he.trans_le (nearest_attains f))
      simp only [toInt_number] at hle
      have h2 : k = nearest f := le_antisymm (by exact_mod_cast hle) h1
      rw [h2]

end Vq

end
-- ==== Proof.Payloads.lean ====
/- The kernel's stored values over the extended reals, lane by lane: least distances, nearest codes, masked codes, code
   counts, distance sums, and the two scalars of the last point. -/
module

public import proofs.«01_k».proof.Proof.KernelBody
public import proofs.«01_k».proof.Proof.Nearest
public import Idealize.ShloMosaic.Lib.Pointwise
public import Idealize.ShloMosaic.Lib.IdealHost

@[expose] public section

noncomputable section

namespace Cert.KernelIdeal.Hand

open Cert.KernelIdeal Cert.KernelIdeal.Gen Idealize.ShloMosaic

/-! ## Constants and conversions -/

/-- The constant `2.0`. -/
theorem const_two : Ideal.ofBits .f32 1073741824#32 = 2 := by
  simp [Ideal.ofBits, Ideal.ieee, -EReal.coe_mul]; norm_num; rfl

/-- The constant infinity. -/
theorem const_top : Ideal.ofBits .f32 2139095040#32 = ⊤ := by
  simp [Ideal.ofBits, Ideal.ieee]

/-- The constant `1024.0`. -/
theorem const_codes : Ideal.ofBits .f32 1149239296#32 = ((1024 : ℝ) : EReal) := by
  simp [Ideal.ofBits, Ideal.ieee, -EReal.coe_mul]; norm_num

/-- A code's number as a float. -/
theorem number_float (k : Fin 1024) :
    FloatOps.sitofp (F := Ideal) .f32 (BitVec.ofNat 32 k.val) = ((k.val : ℝ) : EReal) := by
  show (((BitVec.ofNat 32 k.val).toInt : ℝ) : EReal) = _
  rw [Vq.toInt_number]; norm_cast

/-- A code's number, converted back to a word. -/
theorem number_word (k : Fin 1024) :
    FloatOps.fptosi (F := Ideal) (φ := .f32) 32 (((k.val : ℝ) : EReal)) = BitVec.ofNat 32 k.val := by
  have h := k.isLt
  show BitVec.ofInt 32 (Ideal.toIntClamped _ _ _) = _
  rw [Ideal.toIntClamped_coe, if_pos (Nat.cast_nonneg _), Int.floor_natCast, min_eq_right (by norm_num; omega),
    max_eq_right (by norm_num), BitVec.ofInt_natCast]

/-- A condition's bit, widened and converted, is one or zero. -/
theorem bit_float (p : Prop) [Decidable p] :
    FloatOps.sitofp (F := Ideal) .f32 (BitVec.setWidth 32 (BitVec.ofBool (decide p))) = if p then 1 else 0 := by
  show (((BitVec.setWidth 32 (BitVec.ofBool (decide p))).toInt : ℝ) : EReal) = _
  by_cases h : p <;> simp [h]

/-! ## One row's nearest code -/

/-- Row `r` of a block against the codes: its squared distances. -/
def rowDist (x : Vec Ideal S2048x256 .f32) (e : Vec Ideal S256x1024 .f32) (r : Fin 2048) : Fin 1024 → EReal :=
  Vq.dist (fun d => x (ix2 r d)) (fun d k => e (ix2 d k))

section Row

variable (x : Vec Ideal S2048x256 .f32) (e : Vec Ideal S256x1024 .f32) (r : Fin 2048)

/-- The block's distances. -/
theorem distances (k : Fin 1024) : k0_pay10 x e (ix2 r k) = rowDist x e r k := by
  pointwise [k0_pay10, rowDist, Vq.dist]
  rw [const_two]

/-- The block's least distances. -/
theorem least_distance : k0_pay12 x e (ix2 r 0) = Vq.least (rowDist x e r) := by
  pointwise [k0_pay12]
  simp only [distances, const_top]
  rfl

/-- The block's nearest code numbers, as floats. -/
theorem nearest_float : k0_pay13 x e (ix2 r 0) = (((Vq.nearest (rowDist x e r)).val : ℝ) : EReal) := by
  pointwise [k0_pay13, k0_pay11]
  simp only [distances, least_distance, const_top, const_codes, number_float]
  exact Vq.fold_marked _

/-- The marks of the nearest codes, from the nearest numbers. -/
theorem marks_of (v : FVec Ideal S2048x1 .f32) (k : Fin 1024) (n : Fin 1024)
    (hv : v (ix2 r 0) = ((n.val : ℝ) : EReal)) :
    truncf (F := Ideal) .bf16 (sitofp .f32 (extui 32 (cmpf .oeq (k0_pay11 (F := Ideal))
      (broadcastTo S2048x1024 v broadcasts_S2048x1_S2048x1024)) natLt_1_32)) bitsLt_bf16_f32 (ix2 r k)
      = if k = n then 1 else 0 := by
  pointwise [k0_pay11]
  rw [bit_float, number_float, hv]
  simp only [EReal.coe_eq_coe_iff, Nat.cast_inj, Fin.val_inj]

/-- The block's marks: one at the nearest code, zero elsewhere. -/
theorem marks (k : Fin 1024) : k0_pay15 x e (ix2 r k) = if k = Vq.nearest (rowDist x e r) then 1 else 0 :=
  marks_of r (k0_pay13 x e) k _ (nearest_float x e r)

/-- The numbers stored, from the numbers as floats. -/
theorem index_of (v : FVec Ideal S2048x1 .f32) (n : Fin 1024) (hv : v (ix2 r 0) = ((n.val : ℝ) : EReal)) :
    k0_pay2 (transpose S1x2048 [1, 0] v transposes_S2048x1_p1_0_S1x2048) (ix3 0 0 r) = BitVec.ofNat 32 n.val := by
  pointwise [k0_pay2]
  rw [hv, number_word]

/-- The block of code numbers. -/
theorem index_lane : indexBlock x e (ix3 0 0 r) = BitVec.ofNat 32 (Vq.nearest (rowDist x e r)).val :=
  index_of r (k0_pay13 x e) _ (nearest_float x e r)

end Row

/-! ## The stored values -/

section Stored

variable (x : Vec Ideal S2048x256 .f32) (w : Vec Ideal S1x1x2048 .f32) (e : Vec Ideal S256x1024 .f32)

/-- Weighted codes from marks. -/
theorem codes_of (p : FVec Ideal S2048x1024 .bf16) (b : Vec Ideal S256x1024 .bf16) (r : Fin 2048) (d : Fin 256) :
    k0_pay1 (k0_pay9 w) p (k0_pay16 b) (constant S2048x256 .f32 0x00000000#32) (ix2 r d)
      = (∑ k, p (ix2 r k) * b (ix2 d k)) * w (ix3 0 0 r) := by
  pointwise [k0_pay1, k0_pay9, k0_pay16]

/-- A lane of the codes: the nearest code's, times the weight. -/
theorem codes_lane (b : Vec Ideal S256x1024 .bf16) (r : Fin 2048) (d : Fin 256) :
    codesBlock x w e b (ix2 r d) = b (ix2 d (Vq.nearest (rowDist x e r))) * w (ix3 0 0 r) := by
  refine (codes_of w (k0_pay15 x e) b r d).trans (congrArg (· * w (ix3 0 0 r)) ?_)
  simp only [marks, ite_mul, one_mul, zero_mul, Finset.sum_ite_eq', Finset.mem_univ, if_true]

/-- Counts from marks. -/
theorem count_of (p : FVec Ideal S2048x1024 .bf16) (s : Vec Ideal S1x1024 .f32) (k : Fin 1024) :
    k0_pay3 (k0_pay9 w) p s (ix2 0 k) = s (ix2 0 k) + ∑ r, w (ix3 0 0 r) * p (ix2 r k) := by
  pointwise [k0_pay3, k0_pay9]

/-- A lane of the counts: the weights of the rows whose nearest code it is, added. -/
theorem count_lane (s : Vec Ideal S1x1024 .f32) (k : Fin 1024) :
    countStep x w e s (ix2 0 k)
      = s (ix2 0 k) + ∑ r, w (ix3 0 0 r) * if k = Vq.nearest (rowDist x e r) then 1 else 0 := by
  refine (count_of w (k0_pay15 x e) s k).trans ?_
  simp only [marks]

/-- Distance sums from least distances. -/
theorem dist_of (v : FVec Ideal S2048 .f32) (p : FVec Ideal S2048x1 .f32) (s : Vec Ideal S1x2048 .f32) (r : Fin 2048) :
    k0_pay4 v p s (ix2 0 r) = s (ix2 0 r) + p (ix2 r 0) * v (ix1 r) := by
  pointwise [k0_pay4]

/-- The weights as one row. -/
theorem weights_lane (r : Fin 2048) : k0_pay9 w (ix1 r) = w (ix3 0 0 r) := by
  pointwise [k0_pay9]

/-- A lane of the distance sums: the row's least distance, weighted, added. -/
theorem dist_lane (s : Vec Ideal S1x2048 .f32) (r : Fin 2048) :
    distStep x w e s (ix2 0 r) = s (ix2 0 r) + Vq.least (rowDist x e r) * w (ix3 0 0 r) := by
  refine (dist_of (k0_pay9 w) (k0_pay12 x e) s r).trans ?_
  rw [least_distance, weights_lane]

/-- The mean distance: the lane sums, added and divided by the number of elements. -/
theorem mean_lane (s : Vec Ideal S1x2048 .f32) :
    k0_pay5 s (ix2 0 0) = Ideal.div (∑ r, s (ix2 0 r)) (Ideal.ofBits .f32 1249902592#32) := by
  pointwise [k0_pay5]
  simp

/-- The effective number of units, from the counts. -/
theorem units_lane (s : Vec Ideal S1x1024 .f32) :
    k0_pay6 s s (ix2 0 0)
      = Ideal.div 1 (∑ k, Ideal.div (s (ix2 0 k)) (max (∑ k, s (ix2 0 k)) 1)
          * Ideal.div (s (ix2 0 k)) (max (∑ k, s (ix2 0 k)) 1)) := by
  pointwise [k0_pay6]
  simp

/-- The counts start at zero. -/
theorem count_start (k : Fin 1024) : (k0_pay7 (F := Ideal)) (ix2 0 k) = 0 := by
  pointwise [k0_pay7]

/-- The distance sums start at zero. -/
theorem dist_start (r : Fin 2048) : (k0_pay8 (F := Ideal)) (ix2 0 r) = 0 := by
  pointwise [k0_pay8]

end Stored

end Cert.KernelIdeal.Hand

end
-- ==== Proof.KernelBlocks.lean ====
/- What the kernel's windows read: the arrays the host operations before the launch leave, block by block, and what the
   host operations after it leave in the results. -/
module

public import proofs.«01_k».proof.Proof.Payloads
public import Idealize.ShloMosaic.Lib.StableHlo.Run

@[expose] public section

noncomputable section

namespace Vq

/-- Row `r` of block `t`, among all the rows. -/
def rowAt (t : ℕ) (r : Fin 2048) : Fin 16384 := ⟨(2048 * t + r.val) % 16384, Nat.mod_lt _ (by decide)⟩

/-- A block's row by its number, for the eight blocks. -/
theorem rowAt_val (t : ℕ) (ht : t < 8) (r : Fin 2048) : (rowAt t r).val = 2048 * t + r.val := by
  have h := r.isLt
  exact Nat.mod_eq_of_lt (by omega)

/-- Row `n`'s first coordinate. -/
def hi (n : Fin 16384) : Fin 2048 := ⟨n.val / 8, by omega⟩

/-- Row `n`'s second coordinate. -/
def lo (n : Fin 16384) : Fin 8 := ⟨n.val % 8, by omega⟩

/-- The row of the two coordinates. -/
def at2 (a : Fin 2048) (b : Fin 8) : Fin 16384 := ⟨a.val * 8 + b.val, by omega⟩

end Vq

namespace Cert.KernelIdeal.Hand

open Cert.KernelIdeal Cert.KernelIdeal.Gen Idealize.ShloMosaic Idealize.ShloMosaic.TcCoe Idealize.SL.Sem

section Host

variable {F : FTy → Type} [FloatOps F]
variable (m : (ℓ : Loc nD τ sig) → Buf (Elt F) ℓ) (c : Dev nD)

/-- The launch finds the input's rows. -/
theorem found_rows : V m c main_v0
    = shapeCast S16384x256 (m ((c : Thread nD τ).loc main_arg0) : FVec F S2048x8x256 .f32)
        shapeCasts_S2048x8x256_S16384x256 := by
  show StableHlo.after (List.flatten [hostOps0]) (fun b => m (c, b)) (Proc.devRef .tc main_v0) = _
  simp only [List.flatten_cons, List.flatten_nil, List.append_nil]
  after_results_simp <;> rfl

/-- The launch finds the mask as weights. -/
theorem found_weights : V m c main_v2
    = uitofp .f32 (shapeCast S8x1x2048 (m ((c : Thread nD τ).loc main_arg1) : IVec S2048x8 1)
        shapeCasts_S2048x8_S8x1x2048) := by
  show StableHlo.after (List.flatten [hostOps0]) (fun b => m (c, b)) (Proc.devRef .tc main_v2) = _
  simp only [List.flatten_cons, List.flatten_nil, List.append_nil]
  after_results_simp <;> rfl

/-- The launch finds the codes in the shorter format. -/
theorem found_short : V m c main_v3
    = truncf .bf16 (m ((c : Thread nD τ).loc main_arg2) : FVec F S256x1024 .f32) bitsLt_bf16_f32 := by
  show StableHlo.after (List.flatten [hostOps0]) (fun b => m (c, b)) (Proc.devRef .tc main_v3) = _
  simp only [List.flatten_cons, List.flatten_nil, List.append_nil]
  after_results_simp <;> rfl

end Host

/-! ## The windows' places -/

/-- Point `t` reads block `t` of the input's rows. -/
theorem place0 : ∀ t : Fin cfg0.N, win0_0.index t (0 : Fin 2) = t.val ∧ win0_0.index t (1 : Fin 2) = 0 :=
  (by decide +kernel : ∀ t : Fin grid0.N, _)
/-- Point `t` reads block `t` of the weights. -/
theorem place1 : ∀ t : Fin cfg0.N, win0_1.index t (0 : Fin 3) = t.val ∧ win0_1.index t (1 : Fin 3) = 0
    ∧ win0_1.index t (2 : Fin 3) = 0 :=
  (by decide +kernel : ∀ t : Fin grid0.N, _)
/-- Every point reads the whole array of codes. -/
theorem place2 : ∀ t : Fin cfg0.N, win0_2.index t (0 : Fin 2) = 0 ∧ win0_2.index t (1 : Fin 2) = 0 :=
  (by decide +kernel : ∀ t : Fin grid0.N, _)
/-- Every point reads the whole array of shorter codes. -/
theorem place3 : ∀ t : Fin cfg0.N, win0_3.index t (0 : Fin 2) = 0 ∧ win0_3.index t (1 : Fin 2) = 0 :=
  (by decide +kernel : ∀ t : Fin grid0.N, _)
/-- Point `t` writes block `t` of the masked codes. -/
theorem place4 : ∀ t : Fin cfg0.N, win0_4.index t (0 : Fin 2) = t.val ∧ win0_4.index t (1 : Fin 2) = 0 :=
  (by decide +kernel : ∀ t : Fin grid0.N, _)
/-- Point `t` writes block `t` of the code numbers. -/
theorem place5 : ∀ t : Fin cfg0.N, win0_5.index t (0 : Fin 3) = t.val ∧ win0_5.index t (1 : Fin 3) = 0
    ∧ win0_5.index t (2 : Fin 3) = 0 :=
  (by decide +kernel : ∀ t : Fin grid0.N, _)

/-! ## The blocks at the extended reals -/

section Blocks

variable (m : (ℓ : Loc nD τ sig) → Buf (Elt Ideal) ℓ) (c : Dev nD)

/-- Row `n` of the input. -/
def inRow (n : Fin 16384) (d : Fin 256) : EReal :=
  (m ((c : Thread nD τ).loc main_arg0) : FVec Ideal S2048x8x256 .f32) (ix3 (Vq.hi n) (Vq.lo n) d)

/-- Row `n`'s mask as a weight. -/
def weight (n : Fin 16384) : EReal :=
  FloatOps.uitofp (F := Ideal) .f32
    ((m ((c : Thread nD τ).loc main_arg1) : IVec S2048x8 1) (ix2 (Vq.hi n) (Vq.lo n)))

/-- Element `d` of code `k`. -/
def code (d : Fin 256) (k : Fin 1024) : EReal :=
  (m ((c : Thread nD τ).loc main_arg2) : FVec Ideal S256x1024 .f32) (ix2 d k)

/-- There are eight points. -/
theorem point_lt (t : Fin cfg0.N) : t.val < 8 := lt_of_lt_of_eq t.isLt (show cfg0.N = 8 from N_0)

/-- The input's block. -/
theorem block_rows (t : Fin cfg0.N) (r : Fin 2048) (d : Fin 256) :
    (iblk m c 0 t : Vec Ideal S2048x256 .f32) (ix2 r d) = inRow m c (Vq.rowAt t.val r) d := by
  have hr : ((cfg0.win 0).blk t).view.emb (ix2 r d : S2048x256.Idx) = (ix2 (Vq.rowAt t.val r) d : S16384x256.Idx) := by
    funext a
    apply Fin.ext
    match a with
    | ⟨0, _⟩ =>
      show win0_0.index t 0 * 2048 + 1 * r.val = (Vq.rowAt t.val r).val
      rw [(place0 t).1, Vq.rowAt_val _ (point_lt t)]; omega
    | ⟨1, _⟩ => show win0_0.index t 1 * 256 + 1 * d.val = d.val; rw [(place0 t).2]; omega
  have e : ∀ (n : Fin 16384) (g : FVec Ideal S2048x8x256 .f32),
      shapeCast S16384x256 g shapeCasts_S2048x8x256_S16384x256 (ix2 n d) = g (ix3 (Vq.hi n) (Vq.lo n) d) := by
    intro n g
    unfold Vq.hi Vq.lo
    pointwise
  unfold iblk
  rw [View.read_apply, hr]
  show V m c main_v0 _ = _
  rw [found_rows]
  exact e _ _

/-- The weights' block. -/
theorem block_weights (t : Fin cfg0.N) (r : Fin 2048) :
    (iblk m c 1 t : Vec Ideal S1x1x2048 .f32) (ix3 0 0 r) = weight m c (Vq.rowAt t.val r) := by
  have hr : ((cfg0.win 1).blk t).view.emb (ix3 0 0 r : S1x1x2048.Idx)
      = (ix3 ⟨t.val, point_lt t⟩ 0 r : S8x1x2048.Idx) := by
    funext a
    apply Fin.ext
    match a with
    | ⟨0, _⟩ => show win0_1.index t 0 * 1 + 1 * 0 = t.val; rw [(place1 t).1]; omega
    | ⟨1, _⟩ => show win0_1.index t 1 * 1 + 1 * 0 = 0; rw [(place1 t).2.1]
    | ⟨2, _⟩ => show win0_1.index t 2 * 2048 + 1 * r.val = r.val; rw [(place1 t).2.2]; omega
  have e : ∀ (s : Fin 8) (g : IVec S2048x8 1), (uitofp .f32 (shapeCast S8x1x2048 g shapeCasts_S2048x8_S8x1x2048) :
      FVec Ideal S8x1x2048 .f32) (ix3 s 0 r)
        = FloatOps.uitofp (F := Ideal) .f32 (g (ix2 ⟨s.val * 256 + r.val / 8, by omega⟩ ⟨r.val % 8, by omega⟩)) := by
    intro s g
    pointwise
  unfold iblk
  rw [View.read_apply, hr]
  show V m c main_v2 _ = _
  rw [found_weights]
  refine (e _ _).trans ?_
  have h := Vq.rowAt_val t.val (point_lt t) r
  unfold weight
  congr 2
  refine congrArg₂ ix2 (Fin.ext ?_) (Fin.ext ?_)
  · show t.val * 256 + r.val / 8 = (Vq.rowAt t.val r).val / 8
    omega
  · show r.val % 8 = (Vq.rowAt t.val r).val % 8
    omega

/-- The codes' block. -/
theorem block_codes (t : Fin cfg0.N) (d : Fin 256) (k : Fin 1024) :
    (iblk m c 2 t : Vec Ideal S256x1024 .f32) (ix2 d k) = code m c d k := by
  have hr : ((cfg0.win 2).blk t).view.emb (ix2 d k : S256x1024.Idx) = (ix2 d k : S256x1024.Idx) := by
    funext a
    apply Fin.ext
    match a with
    | ⟨0, _⟩ => show win0_2.index t 0 * 256 + 1 * d.val = d.val; rw [(place2 t).1]; omega
    | ⟨1, _⟩ => show win0_2.index t 1 * 1024 + 1 * k.val = k.val; rw [(place2 t).2]; omega
  unfold iblk
  rw [View.read_apply, hr]
  show V m c main_arg2 _ = _
  rw [V_main_arg2]
  rfl

/-- The block of the codes in the shorter format. -/
theorem block_short (t : Fin cfg0.N) (d : Fin 256) (k : Fin 1024) :
    (iblk m c 3 t : Vec Ideal S256x1024 .bf16) (ix2 d k) = code m c d k := by
  have hr : ((cfg0.win 3).blk t).view.emb (ix2 d k : S256x1024.Idx) = (ix2 d k : S256x1024.Idx) := by
    funext a
    apply Fin.ext
    match a with
    | ⟨0, _⟩ => show win0_3.index t 0 * 256 + 1 * d.val = d.val; rw [(place3 t).1]; omega
    | ⟨1, _⟩ => show win0_3.index t 1 * 1024 + 1 * k.val = k.val; rw [(place3 t).2]; omega
  unfold iblk
  rw [View.read_apply, hr]
  show V m c main_v3 _ = _
  rw [found_short]
  rfl

/-- Row `n`'s distances. -/
def rowDists (n : Fin 16384) : Fin 1024 → EReal := Vq.dist (inRow m c n) (code m c)

/-- A block row's distances are the row's. -/
theorem block_dists (t : Fin cfg0.N) (r : Fin 2048) :
    rowDist (iblk m c 0 t) (iblk m c 2 t) r = rowDists m c (Vq.rowAt t.val r) := by
  unfold rowDist rowDists
  simp only [block_rows, block_codes]

end Blocks

end Cert.KernelIdeal.Hand

end
-- ==== Proof.RefValue.lean ====
/- The reference's four results over the extended reals, in closed form: its distances, the arg-max of their negations, the
   marks and the gathered codes at the nearest code's number, and the sums they enter. -/
module

public import proofs.«01_k».proof.Proof.RefRun
public import proofs.«01_k».proof.Proof.KernelBlocks
public import Idealize.ShloMosaic.Lib.Routing.Ops
public import Idealize.ShloMosaic.Lib.ReduceAll

@[expose] public section

noncomputable section

namespace Cert.ReferenceIdeal.Hand

open Cert.ReferenceIdeal Cert.ReferenceIdeal.Gen Idealize.ShloMosaic

/-! ## Distances -/

/-- The squared distances of row `n` of the input from the codes. -/
def dists (x : FVec Ideal S2048x8x256 .f32) (e : FVec Ideal S256x1024 .f32) (n : Fin 16384) : Fin 1024 → EReal :=
  Vq.dist (fun d => x (ix3 (Vq.hi n) (Vq.lo n) d)) (fun d k => e (ix2 d k))

/-- The reference's array of negated distances. -/
theorem negDist_at (x : FVec Ideal S2048x8x256 .f32) (e : FVec Ideal S256x1024 .f32) (n : Fin 16384) (k : Fin 1024) :
    negDist x e (ix2 n k) = -dists x e n k := by
  pointwise [negDist]
  rw [Cert.KernelIdeal.Hand.const_two]
  rfl

/-! ## The arg-max -/

/-- The initial value of the arg-max. -/
theorem const_bot (i : S_.Idx) : (constant S_ .f32 0xFF800000#32 : FVec Ideal S_ .f32) i = (⊥ : EReal) := by
  pointwise
  simp [Ideal.ofBits, Ideal.ieee]

/-- Of two pairs the reducer keeps one that comes before both. -/
theorem reducer_keeps (a b : EReal × BitVec 32) :
    (reducer_argmax_f32_i32 (F := Ideal) a b = a ∧ Vq.Before a b)
      ∨ (reducer_argmax_f32_i32 (F := Ideal) a b = b ∧ Vq.Before b a) := by
  obtain ⟨a, i⟩ := a
  obtain ⟨b, j⟩ := b
  rcases lt_trichotomy a b with h | h | h
  · right
    have h1 : ¬b < a := not_lt.2 h.le
    refine ⟨?_, .inl h⟩
    simp [reducer_argmax_f32_i32, Scalar.select, IntOp.ori, IntOp.andi, IntOp.cmpi, Ideal.cmpf_def, Ideal.cmp, h1, h.ne]
  · subst h
    by_cases hij : i.toInt < j.toInt
    · left
      refine ⟨?_, .inr ⟨rfl, hij.le⟩⟩
      simp [reducer_argmax_f32_i32, Scalar.select, IntOp.ori, IntOp.andi, IntOp.cmpi, Ideal.cmpf_def, Ideal.cmp,
        BitVec.slt, hij]
    · right
      refine ⟨?_, .inr ⟨rfl, not_lt.1 hij⟩⟩
      simp [reducer_argmax_f32_i32, Scalar.select, IntOp.ori, IntOp.andi, IntOp.cmpi, Ideal.cmpf_def, Ideal.cmp,
        BitVec.slt, hij]
  · left
    refine ⟨?_, .inl h⟩
    simp [reducer_argmax_f32_i32, Scalar.select, IntOp.ori, IntOp.andi, IntOp.cmpi, Ideal.cmpf_def, Ideal.cmp, h, h.ne']

/-- The pairs of a row of a matrix: the lanes of its columns. -/
theorem mem_row {n0 n1 : ℕ} {t : Shape} {β : Type} (h : (⟨2, ![n0, n1]⟩ : Shape).ReducesTo [1] t)
    (v : (⟨2, ![n0, n1]⟩ : Shape).Idx → EReal) (w : (⟨2, ![n0, n1]⟩ : Shape).Idx → β) (j : t.Idx) (q : EReal × β) :
    q ∈ Host.argReduceFiber v w h j
      ↔ ∃ i : (⟨2, ![n0, n1]⟩ : Shape).Idx, h.drop i = j ∧ q = (v i, w i) := by
  unfold Host.argReduceFiber
  simp only [List.mem_map, List.mem_filter, List.mem_finRange, true_and, decide_eq_true_eq]
  constructor
  · rintro ⟨p, hp, rfl⟩
    exact ⟨_, hp, rfl⟩
  · rintro ⟨i, hi, rfl⟩
    refine ⟨(⟨2, ![n0, n1]⟩ : Shape).rowMajor i, ?_, ?_⟩ <;> rw [Equiv.symm_apply_apply]
    exact hi

/-- The pairs of row `n` of a matrix: its values with the columns' numbers. -/
theorem mem_fiber {n0 n1 : ℕ} (h : (⟨2, ![n0, n1]⟩ : Shape).ReducesTo [1] (⟨1, ![n0]⟩ : Shape))
    (d : (⟨2, ![n0, n1]⟩ : Shape).Idx → EReal) (n : Fin n0) (q : EReal × BitVec 32) :
    q ∈ Host.argReduceFiber d (iotaInDim (⟨2, ![n0, n1]⟩ : Shape) 32 1) h (ix1 n)
      ↔ ∃ k : Fin n1, q = (d (ix2 n k), BitVec.ofNat 32 k.val) := by
  refine (mem_row _ _ _ _ _).trans ⟨?_, ?_⟩
  · rintro ⟨i, hi, rfl⟩
    obtain ⟨k, rfl⟩ := (Shape.ReducesTo.fiber_r2_a1 _ _ _).1 hi
    exact ⟨k, rfl⟩
  · rintro ⟨k, rfl⟩
    exact ⟨ix2 n k, (Shape.ReducesTo.fiber_r2_a1 _ _ _).2 ⟨k, rfl⟩, rfl⟩

/-- An arg-max along the 1024 columns of a matrix of negated values ends, in row `n`, at the nearest code's number. -/
theorem argReduce_row {n0 : ℕ} {u : Shape} (r : Ideal .f32 × BitVec 32 → Ideal .f32 × BitVec 32 → Ideal .f32 × BitVec 32)
    (hr : ∀ a b, (r a b = a ∧ Vq.Before a b) ∨ (r a b = b ∧ Vq.Before b a))
    (h : (⟨2, ![n0, 1024]⟩ : Shape).ReducesTo [1] (⟨1, ![n0]⟩ : Shape))
    (d : FVec Ideal (⟨2, ![n0, 1024]⟩ : Shape) .f32) (v : u.Idx → Ideal .f32) (w : u.Idx → BitVec 32) (hu : 0 < u.numel)
    (n : Fin n0) (f : Fin 1024 → EReal) (hd : ∀ k, d (ix2 n k) = -f k) (hv : v (Shape.Idx.first hu) = (⊥ : EReal))
    (hw : w (Shape.Idx.first hu) = 0#32) :
    (Host.argReduce r d (iotaInDim (⟨2, ![n0, 1024]⟩ : Shape) 32 1) v w h hu (ix1 n)).2
      = BitVec.ofNat 32 (Vq.nearest f).val := by
  rw [Ideal.argReduce_eq_reduce2, Host.reduce2_eq_foldl_fiber, hv, hw]
  refine Vq.foldl_nearest r hr f _ fun q => (mem_fiber h d n q).trans ?_
  simp only [hd]

/-- The index column, as a function of the row. -/
theorem nearest_eq (d : FVec Ideal S16384x1024 .f32) :
    nearest d = fun j => (Host.argReduce reducer_argmax_f32_i32 d (iotaInDim S16384x1024 32 1)
      (constant S_ .f32 0xFF800000#32) (constantI S_ 32 0#32) reducesTo_S16384x1024_S16384_d1 h_S_ j).2 := rfl

/-- The arg-max of the negated values of a row is the number of its nearest code. -/
theorem nearest_at (d : FVec Ideal S16384x1024 .f32) (n : Fin 16384) (f : Fin 1024 → EReal)
    (h : ∀ k, d (ix2 n k) = -f k) : nearest d (ix1 n) = BitVec.ofNat 32 (Vq.nearest f).val :=
  (congrFun (nearest_eq d) (ix1 n)).trans
    (argReduce_row reducer_argmax_f32_i32 reducer_keeps reducesTo_S16384x1024_S16384_d1 d
      (constant S_ .f32 0xFF800000#32) (constantI S_ 32 0#32) h_S_ n f h (const_bot _) rfl)

/-- The reference's index of row `n`. -/
theorem index_at (x : FVec Ideal S2048x8x256 .f32) (e : FVec Ideal S256x1024 .f32) (n : Fin 16384) :
    index x e (ix1 n) = BitVec.ofNat 32 (Vq.nearest (dists x e n)).val :=
  nearest_at _ n _ fun k => negDist_at x e n k

/-! ## Marks and gathered codes -/

/-- The numbers of two codes as words are equal only if the codes are. -/
theorem number_eq (a b : Fin 1024) : BitVec.ofNat 32 a.val = BitVec.ofNat 32 b.val ↔ b = a := by
  have ha := a.isLt
  have hb := b.isLt
  constructor
  · intro h
    have h' := congrArg BitVec.toNat h
    simp only [BitVec.toNat_ofNat] at h'
    exact Fin.ext (by omega)
  · rintro rfl; rfl

/-- Row `n` marks its index's code. -/
theorem oneHot_at (i : IVec S16384 32) (n : Fin 16384) (k b : Fin 1024) (h : i (ix1 n) = BitVec.ofNat 32 b.val) :
    oneHot (F := Ideal) i (ix2 n k) = if k = b then 1 else 0 := by
  pointwise [oneHot]
  rw [h]
  show (((BitVec.ofBool (BitVec.ofNat 32 b.val == BitVec.ofNat 32 k.val)).toNat : ℝ) : EReal) = _
  by_cases hk : k = b
  · subst hk; simp
  · rw [if_neg hk, beq_eq_false_iff_ne.2 (fun h => hk ((number_eq b k).1 h))]; simp

/-- A code's number is not negative. -/
theorem number_nonneg (b : Fin 1024) : IntOp.cmpi .slt (BitVec.ofNat 32 b.val) 0#32 = 0#1 := by
  have h : ¬((b.val : ℤ) < 0) := by omega
  simp [IntOp.cmpi, BitVec.slt, Vq.toInt_number, h]

/-- A code's number passes the lower bound's check. -/
theorem number_ge (b : Fin 1024) : IntOp.cmpi .sge (BitVec.ofNat 32 b.val) 0#32 = 1#1 := by
  simp [IntOp.cmpi, BitVec.sle, Vq.toInt_number]

/-- A code's number passes the upper bound's check. -/
theorem number_le (b : Fin 1024) : IntOp.cmpi .sle (BitVec.ofNat 32 b.val) 1023#32 = 1#1 := by
  have h := b.isLt
  have h' : (1023#32 : BitVec 32).toInt = 1023 := by decide
  have h'' : (b.val : ℤ) ≤ 1023 := by omega
  simp [IntOp.cmpi, BitVec.sle, Vq.toInt_number, h', h'']

/-- The wrapped index of a row. -/
theorem wrapped_at (i : IVec S16384 32) (n : Fin 16384) (b : Fin 1024) (h : i (ix1 n) = BitVec.ofNat 32 b.val) :
    broadcastInDim S16384x1 ![0] bcast_S16384_S16384x1_0
        (select (cmpi .slt i (broadcastInDim S16384 ![] bcast_S_S16384 (constantI S_ 32 0#32)))
          (addi i (broadcastInDim S16384 ![] bcast_S_S16384 (constantI S_ 32 1024#32))) i) (ix2 n 0)
      = BitVec.ofNat 32 b.val := by
  pointwise
  rw [h, number_nonneg]
  rfl

/-- The transposed codes' lanes. -/
theorem transposed_at (e : FVec Ideal S256x1024 .f32) (b : Fin 1024) (d : Fin 256) :
    transpose S1024x256 [1, 0] e transposes_S256x1024_S1024x256_1_0 (ix2 b d) = e (ix2 d b) := by
  pointwise

/-- The gathered row is its index's code. -/
theorem rows_at (e : FVec Ideal S256x1024 .f32) (i : IVec S16384 32) (n : Fin 16384) (d : Fin 256) (b : Fin 1024)
    (h : i (ix1 n) = BitVec.ofNat 32 b.val) : rows e i (ix2 n d) = e (ix2 d b) := by
  have hg := Routing.gather_row gather_S1024x256_S16384x1_S16384x256_1_0_n_n_0_1_1256 rfl rfl rfl rfl rfl
    (transpose S1024x256 [1, 0] e transposes_S256x1024_S1024x256_1_0) _ n d b (wrapped_at i n b h) (by norm_num)
  have hs : Scalar.select (0#1) (IntOp.addi (BitVec.ofNat 32 b.val) 1024#32) (BitVec.ofNat 32 b.val)
      = BitVec.ofNat 32 b.val := rfl
  pointwise [rows]
  rw [h, number_nonneg, hs, number_ge, number_le, Finset.univ_unique, Finset.fold_singleton]
  exact hg.trans (transposed_at e b d)

end Cert.ReferenceIdeal.Hand

end
-- ==== Proof.RefClosed.lean ====
/- The reference's results lane by lane, and the arithmetic of finite rows under a mask of zeros and ones. -/
module

public import proofs.«01_k».proof.Proof.RefValue

@[expose] public section

noncomputable section

/-! ## The arithmetic -/

namespace Vq

/-- The first coordinate of the row of two coordinates. -/
theorem hi_at2 (a : Fin 2048) (b : Fin 8) : hi (at2 a b) = a := Fin.ext (by simp only [hi, at2]; omega)

/-- The second coordinate of the row of two coordinates. -/
theorem lo_at2 (a : Fin 2048) (b : Fin 8) : lo (at2 a b) = b := Fin.ext (by simp only [lo, at2]; omega)

/-- A row is the row of its two coordinates. -/
theorem at2_hi_lo (n : Fin 16384) : at2 (hi n) (lo n) = n := Fin.ext (by simp only [hi, lo, at2]; omega)

/-- A sum over both coordinates is the sum over the rows. -/
theorem sum_rows (f : Fin 16384 → EReal) : ∑ a, ∑ b, f (at2 a b) = ∑ n, f n := by
  rw [← Finset.sum_product']
  refine Finset.sum_nbij' (fun p => at2 p.1 p.2) (fun n => (hi n, lo n)) (fun _ _ => Finset.mem_univ _)
    (fun _ _ => by simp) ?_ (fun n _ => at2_hi_lo n) (fun _ _ => rfl)
  rintro ⟨a, b⟩ -
  exact Prod.ext (hi_at2 a b) (lo_at2 a b)

/-- Adding a finite number and taking it away again changes nothing. -/
theorem add_sub_finite (a : ℝ) (b : EReal) : (a : EReal) + (b - a) = b := by
  induction b with
  | bot => rfl
  | top => rfl
  | coe b => norm_cast; ring

/-- A masked lane restored from its difference to the input's. -/
theorem restore (x : ℝ) (q μ : EReal) (h : μ = 0 ∨ μ = 1) : (x : EReal) * μ + (q * μ - x * μ) = q * μ := by
  rcases h with rfl | rfl
  · simp
  · simpa using add_sub_finite x q

/-- Over finite rows and codes the expanded squared distance is the sum of the squared differences. -/
theorem dist_real (X : Fin 256 → ℝ) (E : Fin 256 → Fin 1024 → ℝ) (k : Fin 1024) :
    dist (fun d => (X d : EReal)) (fun d k => (E d k : EReal)) k
      = ∑ d, ((E d k : EReal) - X d) * ((E d k : EReal) - X d) := by
  unfold dist
  have h2 : (2 : EReal) = ((2 : ℝ) : EReal) := rfl
  rw [h2]
  simp only [← EReal.coe_mul, ← EReal.coe_sub]
  have hs : ∀ f : Fin 256 → ℝ, ∑ d, (f d : EReal) = ((∑ d, f d : ℝ) : EReal) := fun f =>
    (map_sum (⟨⟨Real.toEReal, EReal.coe_zero⟩, EReal.coe_add⟩ : ℝ →+ EReal) f Finset.univ).symm
  rw [hs, hs, hs, hs, ← EReal.coe_mul, ← EReal.coe_sub, ← EReal.coe_add, EReal.coe_eq_coe_iff, Finset.mul_sum,
    ← Finset.sum_sub_distrib, ← Finset.sum_add_distrib]
  exact Finset.sum_congr rfl fun d _ => by ring

/-- The weighted least distance of a finite row is the sum of the squares of the masked differences from its nearest
    code. -/
theorem least_masked (x : Fin 256 → EReal) (e : Fin 256 → Fin 1024 → EReal) (μ : EReal) (hx : ∀ d, ∃ r : ℝ, x d = r)
    (he : ∀ d k, ∃ r : ℝ, e d k = r) (h : μ = 0 ∨ μ = 1) :
    ∑ d, (e d (nearest (dist x e)) * μ - x d * μ) * (e d (nearest (dist x e)) * μ - x d * μ)
      = least (dist x e) * μ := by
  rcases h with rfl | rfl
  · simp
  simp only [mul_one]
  rw [← at_nearest]
  generalize nearest (dist x e) = k
  choose X hX using hx
  choose E hE using he
  obtain rfl : x = fun d => (X d : EReal) := funext hX
  obtain rfl : e = fun d k => (E d k : EReal) := funext fun d => funext (hE d)
  exact (dist_real X E k).symm

end Vq

namespace Cert.ReferenceIdeal.Hand

open Cert.ReferenceIdeal Cert.ReferenceIdeal.Gen Idealize.ShloMosaic

/-! ## The results -/

/-- The weight of row `n` under the mask. -/
def wt (w : IVec S2048x8 1) (n : Fin 16384) : EReal :=
  FloatOps.uitofp (F := Ideal) .f32 (w (ix2 (Vq.hi n) (Vq.lo n)))

/-- A weight is zero or one. -/
theorem wt_bit (w : IVec S2048x8 1) (n : Fin 16384) : wt w n = 0 ∨ wt w n = 1 := by
  unfold wt
  generalize w (ix2 (Vq.hi n) (Vq.lo n)) = b
  show (((b.toNat : ℝ) : EReal) = 0) ∨ (((b.toNat : ℝ) : EReal) = 1)
  have hb := b.isLt
  have : b.toNat = 0 ∨ b.toNat = 1 := by omega
  rcases this with h | h <;> rw [h] <;> simp

/-- The gathered rows by both coordinates. -/
theorem reshaped_at (r : FVec Ideal S16384x256 .f32) (h : S16384x256.ShapeCasts S2048x8x256) (a : Fin 2048) (b : Fin 8)
    (d : Fin 256) : shapeCast S2048x8x256 r h (ix3 a b d) = r (ix2 (Vq.at2 a b) d) := by
  pointwise
  rfl

/-- The reference's code of a row. -/
theorem codes_at (x : FVec Ideal S2048x8x256 .f32) (e : FVec Ideal S256x1024 .f32) (a : Fin 2048) (b : Fin 8)
    (d : Fin 256) : codes x e (ix3 a b d) = e (ix2 d (Vq.nearest (dists x e (Vq.at2 a b)))) := by
  unfold codes
  rw [reshaped_at]
  exact rows_at _ _ _ _ _ (index_at x e _)

/-- The first result's lanes. -/
theorem quant_lane (q x : FVec Ideal S2048x8x256 .f32) (w : IVec S2048x8 1) (a : Fin 2048) (b : Fin 8) (d : Fin 256) :
    quant q w x (ix3 a b d)
      = x (ix3 a b d) * wt w (Vq.at2 a b) + (q (ix3 a b d) * wt w (Vq.at2 a b) - x (ix3 a b d) * wt w (Vq.at2 a b)) := by
  unfold wt
  rw [Vq.hi_at2, Vq.lo_at2]
  pointwise [quant]

/-- The second result as a sum over all lanes. -/
theorem diff_lane (q x : FVec Ideal S2048x8x256 .f32) (w : IVec S2048x8 1) :
    diff q w x ix0 = Ideal.div (∑ a, ∑ b, ∑ d,
      (q (ix3 a b d) * wt w (Vq.at2 a b) - x (ix3 a b d) * wt w (Vq.at2 a b))
        * (q (ix3 a b d) * wt w (Vq.at2 a b) - x (ix3 a b d) * wt w (Vq.at2 a b)))
      (Ideal.ofBits .f32 1249902592#32) := by
  unfold wt
  simp only [Vq.hi_at2, Vq.lo_at2]
  pointwise [diff]

/-- The fourth result from the marks. -/
theorem units_lane (h : FVec Ideal S16384x1024 .f32) (w : IVec S2048x8 1) :
    units h w ix0 = Ideal.div 1 (∑ k, Ideal.div (∑ n, h (ix2 n k) * wt w n) (max (∑ n, wt w n) 1)
      * Ideal.div (∑ n, h (ix2 n k) * wt w n) (max (∑ n, wt w n) 1)) := by
  pointwise [units]
  rfl

end Cert.ReferenceIdeal.Hand

end
-- ==== Proof.KernelSteps.lean ====
/- What the kernel leaves after each grid point, over the extended reals: the blocks of masked codes and of code numbers,
   the code counts and the distance sums so far, and the last point's two scalars. -/
module

public import proofs.«01_k».proof.Proof.KernelBlocks

@[expose] public section

noncomputable section

namespace Cert.KernelIdeal.Hand

open Cert.KernelIdeal Cert.KernelIdeal.Gen Idealize.ShloMosaic Idealize.ShloMosaic.TcCoe Idealize.SL.Sem

section Points

variable {F : FTy → Type} [FloatOps F]
variable (m : (ℓ : Loc nD τ sig) → Buf (Elt F) ℓ) (c : Dev nD) (t : Fin cfg0.N)

/-- Every point leaves its block of masked codes. -/
theorem point_codes : (outsAt0 m c t.val t.isLt).1 = codesBlock (iblk m c 0 t) (iblk m c 1 t) (iblk m c 2 t) (iblk m c 3 t) := by
  by_cases h0 : t.val % 8 = 0
  · rw [outsAt0_A m c t h0 (by omega)]; dsimp only; rw [codes_A]
  by_cases h1 : t.val % 8 = 7
  · rw [outsAt0_C m c t h0 h1]; dsimp only; rw [codes_C]
  · rw [outsAt0_B m c t h0 h1]; dsimp only; rw [codes_B]

/-- Every point leaves its block of code numbers. -/
theorem point_index : (outsAt0 m c t.val t.isLt).2.1 = indexBlock (iblk m c 0 t) (iblk m c 2 t) := by
  by_cases h0 : t.val % 8 = 0
  · rw [outsAt0_A m c t h0 (by omega)]; dsimp only; rw [index_A]
  by_cases h1 : t.val % 8 = 7
  · rw [outsAt0_C m c t h0 h1]; dsimp only; rw [index_C]
  · rw [outsAt0_B m c t h0 h1]; dsimp only; rw [index_B]

/-- The first point's counts start from zero. -/
theorem first_count (h0 : t.val % 8 = 0) :
    (outsAt0 m c t.val t.isLt).2.2.2.2.1 = countStep (iblk m c 0 t) (iblk m c 1 t) (iblk m c 2 t) k0_pay7 := by
  rw [outsAt0_A m c t h0 (by omega)]; dsimp only; rw [count_A]

/-- The first point's distance sums start from zero. -/
theorem first_dist (h0 : t.val % 8 = 0) :
    (outsAt0 m c t.val t.isLt).2.2.2.2.2 = distStep (iblk m c 0 t) (iblk m c 1 t) (iblk m c 2 t) k0_pay8 := by
  rw [outsAt0_A m c t h0 (by omega)]; dsimp only; rw [dist_A]

/-- A later point adds to the counts before it. -/
theorem next_count (h0 : ¬t.val % 8 = 0) (h : t.val - 1 < cfg0.N) :
    (outsAt0 m c t.val t.isLt).2.2.2.2.1
      = countStep (iblk m c 0 t) (iblk m c 1 t) (iblk m c 2 t) (outsAt0 m c (t.val - 1) h).2.2.2.2.1 := by
  by_cases h1 : t.val % 8 = 7
  · rw [outsAt0_C m c t h0 h1]; dsimp only; rw [count_C]
  · rw [outsAt0_B m c t h0 h1]; dsimp only; rw [count_B]

/-- A later point adds to the distance sums before it. -/
theorem next_dist (h0 : ¬t.val % 8 = 0) (h : t.val - 1 < cfg0.N) :
    (outsAt0 m c t.val t.isLt).2.2.2.2.2
      = distStep (iblk m c 0 t) (iblk m c 1 t) (iblk m c 2 t) (outsAt0 m c (t.val - 1) h).2.2.2.2.2 := by
  by_cases h1 : t.val % 8 = 7
  · rw [outsAt0_C m c t h0 h1]; dsimp only; rw [dist_C]
  · rw [outsAt0_B m c t h0 h1]; dsimp only; rw [dist_B]

/-- The last point leaves the mean of its distance sums. -/
theorem last_mean (h1 : t.val % 8 = 7) :
    (outsAt0 m c t.val t.isLt).2.2.1 = k0_pay5 (outsAt0 m c t.val t.isLt).2.2.2.2.2 := by
  have h0 : ¬t.val % 8 = 0 := by omega
  rw [next_dist m c t h0 (lt_of_le_of_lt (Nat.sub_le _ _) t.isLt), outsAt0_C m c t h0 h1]; dsimp only; rw [mean_C]

/-- The last point leaves the effective number of units of its counts. -/
theorem last_units (h1 : t.val % 8 = 7) :
    (outsAt0 m c t.val t.isLt).2.2.2.1
      = k0_pay6 (outsAt0 m c t.val t.isLt).2.2.2.2.1 (outsAt0 m c t.val t.isLt).2.2.2.2.1 := by
  have h0 : ¬t.val % 8 = 0 := by omega
  rw [next_count m c t h0 (lt_of_le_of_lt (Nat.sub_le _ _) t.isLt), outsAt0_C m c t h0 h1]; dsimp only; rw [units_C]

end Points

/-! ## The sums so far -/

section Sums

variable (m : (ℓ : Loc nD τ sig) → Buf (Elt Ideal) ℓ) (c : Dev nD)

/-- Row `n`'s nearest code. -/
def near (n : Fin 16384) : Fin 1024 := Vq.nearest (rowDists m c n)

/-- The weight of row `n` at code `k`: its own at its nearest code, zero elsewhere. -/
def mark (n : Fin 16384) (k : Fin 1024) : EReal := weight m c n * if k = near m c n then 1 else 0

/-- The weighted least distance of row `n`. -/
def loss (n : Fin 16384) : EReal := Vq.least (rowDists m c n) * weight m c n

/-- A block's contribution to the counts. -/
theorem count_point (t : Fin cfg0.N) (s : Vec Ideal S1x1024 .f32) (k : Fin 1024) :
    countStep (iblk m c 0 t) (iblk m c 1 t) (iblk m c 2 t) s (ix2 0 k)
      = s (ix2 0 k) + ∑ r, mark m c (Vq.rowAt t.val r) k := by
  refine (count_lane (iblk m c 0 t) (iblk m c 1 t) (iblk m c 2 t) s k).trans ?_
  simp only [block_dists, block_weights]
  rfl

/-- A block's contribution to the distance sums. -/
theorem dist_point (t : Fin cfg0.N) (s : Vec Ideal S1x2048 .f32) (r : Fin 2048) :
    distStep (iblk m c 0 t) (iblk m c 1 t) (iblk m c 2 t) s (ix2 0 r) = s (ix2 0 r) + loss m c (Vq.rowAt t.val r) := by
  refine (dist_lane (iblk m c 0 t) (iblk m c 1 t) (iblk m c 2 t) s r).trans ?_
  simp only [block_dists, block_weights]
  rfl

/-- After point `n` the counts are those of the blocks so far. -/
theorem counts_after : ∀ (n : ℕ) (h : n < cfg0.N) (k : Fin 1024),
    (outsAt0 m c n h).2.2.2.2.1 (ix2 0 k) = ∑ t ∈ Finset.range (n + 1), ∑ r, mark m c (Vq.rowAt t r) k
  | 0, h, k => by
    rw [show (outsAt0 m c 0 h).2.2.2.2.1 = _ from first_count m c ⟨0, h⟩ rfl, count_point, count_start]
    simp
  | n + 1, h, k => by
    have hN := lt_of_lt_of_eq h (show cfg0.N = 8 from N_0)
    rw [show (outsAt0 m c (n + 1) h).2.2.2.2.1 = _ from
        next_count m c ⟨n + 1, h⟩ (by dsimp only; omega) (Nat.lt_of_succ_lt h), count_point]
    show (outsAt0 m c n _).2.2.2.2.1 (ix2 0 k) + _ = _
    rw [counts_after n, Finset.sum_range_succ _ (n + 1)]

/-- After point `n` the distance sums are those of the blocks so far. -/
theorem dists_after : ∀ (n : ℕ) (h : n < cfg0.N) (r : Fin 2048),
    (outsAt0 m c n h).2.2.2.2.2 (ix2 0 r) = ∑ t ∈ Finset.range (n + 1), loss m c (Vq.rowAt t r)
  | 0, h, r => by
    rw [show (outsAt0 m c 0 h).2.2.2.2.2 = _ from first_dist m c ⟨0, h⟩ rfl, dist_point, dist_start]
    simp
  | n + 1, h, r => by
    have hN := lt_of_lt_of_eq h (show cfg0.N = 8 from N_0)
    rw [show (outsAt0 m c (n + 1) h).2.2.2.2.2 = _ from
        next_dist m c ⟨n + 1, h⟩ (by dsimp only; omega) (Nat.lt_of_succ_lt h), dist_point]
    show (outsAt0 m c n _).2.2.2.2.2 (ix2 0 r) + _ = _
    rw [dists_after n, Finset.sum_range_succ _ (n + 1)]

end Sums

/-! ## All rows, block by block -/

/-- The rows of the eight blocks are all the rows. -/
theorem sum_blocks (f : Fin 16384 → EReal) :
    ∑ t ∈ Finset.range 8, ∑ r, f (Vq.rowAt t r) = ∑ n, f n := by
  rw [Finset.sum_range (fun t => ∑ r, f (Vq.rowAt t r)), ← Finset.sum_product']
  refine Finset.sum_nbij' (fun p => Vq.rowAt p.1.val p.2) (fun n => (⟨n.val / 2048, by omega⟩, ⟨n.val % 2048, by omega⟩))
    (fun _ _ => Finset.mem_univ _) (fun _ _ => by simp) ?_ ?_ (fun _ _ => rfl)
  · rintro ⟨t, r⟩ -
    have h := Vq.rowAt_val t.val t.isLt r
    have ht := t.isLt
    have hr := r.isLt
    refine Prod.ext (Fin.ext ?_) (Fin.ext ?_)
    · show (Vq.rowAt t.val r).val / 2048 = t.val
      omega
    · show (Vq.rowAt t.val r).val % 2048 = r.val
      omega
  · intro n _
    have hn := n.isLt
    apply Fin.ext
    rw [Vq.rowAt_val _ (by dsimp only; omega)]
    dsimp only
    omega

section Last

variable (m : (ℓ : Loc nD τ sig) → Buf (Elt Ideal) ℓ) (c : Dev nD)

/-- The count of code `k`: the weights of the rows nearest to it. -/
def count (k : Fin 1024) : EReal := ∑ n, mark m c n k

/-- The mean weighted distance the kernel reports. -/
def meanLoss : EReal := Ideal.div (∑ n, loss m c n) (Ideal.ofBits .f32 1249902592#32)

/-- The effective number of units the kernel reports. -/
def unitsUsed : EReal :=
  Ideal.div 1 (∑ k, Ideal.div (count m c k) (max (∑ k, count m c k) 1) * Ideal.div (count m c k) (max (∑ k, count m c k) 1))

/-- The last point's mean. -/
theorem mean_last (t : Fin cfg0.N) (h1 : t.val % 8 = 7) : (outsAt0 m c t.val t.isLt).2.2.1 (ix2 0 0) = meanLoss m c := by
  have h7 : t.val + 1 = 8 := by have := point_lt t; omega
  rw [last_mean m c t h1, mean_lane]
  simp only [dists_after, h7]
  rw [Finset.sum_comm, sum_blocks (loss m c)]
  rfl

/-- The last point's effective number of units. -/
theorem units_last (t : Fin cfg0.N) (h1 : t.val % 8 = 7) :
    (outsAt0 m c t.val t.isLt).2.2.2.1 (ix2 0 0) = unitsUsed m c := by
  have h7 : t.val + 1 = 8 := by have := point_lt t; omega
  have e : ∀ k, (outsAt0 m c t.val t.isLt).2.2.2.2.1 (ix2 0 k) = count m c k := fun k => by
    rw [counts_after, h7, sum_blocks fun n => mark m c n k]; rfl
  rw [last_units m c t h1, units_lane]
  simp only [e]
  rfl

end Last

end Cert.KernelIdeal.Hand

end
-- ==== Proof.KernelRun.lean ====
/- The kernel's run over the extended reals: its four results as functions of the three arguments. -/
module

public import proofs.«01_k».proof.Proof.KernelSteps

@[expose] public section

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The written arrays -/

/-- The array of masked codes, row by row. -/
def codesArray : FVec Ideal S16384x256 .f32 := fun i => code m c (i 1) (near m c (i 0)) * weight m c (i 0)

/-- The array of code numbers, block by block. -/
def indexArray : IVec S8x1x2048 32 := fun i => BitVec.ofNat 32 (near m c (Vq.rowAt (i 0).val (i 2))).val

/-- A point writes its block of the masked codes. -/
theorem writes_codes (t : Fin cfg0.N) :
    (dats m 0 c).flushed 4 t = ((cfg0.win 4).blk t).view.read (Elt Ideal) (codesArray m c) := by
  show (cfg0.win 4).cut (grid0.coords t) ((dats m 0 c).after 4 t) = _
  rw [after0_4, point_codes]
  funext y
  rw [View.read_apply]
  obtain ⟨r, d, rfl⟩ : ∃ (r : Fin 2048) (d : Fin 256), y = (ix2 r d : S2048x256.Idx) := ⟨y 0, y 1, eq_ix2 y⟩
  have hr : ((cfg0.win 4).blk t).view.emb (ix2 r d : S2048x256.Idx) = (ix2 (Vq.rowAt t.val r) d : S16384x256.Idx) := by
    funext a
    apply Fin.ext
    match a with
    | ⟨0, _⟩ =>
      show win0_4.index t 0 * 2048 + 1 * r.val = (Vq.rowAt t.val r).val
      rw [(place4 t).1, Vq.rowAt_val _ (point_lt t)]; omega
    | ⟨1, _⟩ => show win0_4.index t 1 * 256 + 1 * d.val = d.val; rw [(place4 t).2]; omega
  rw [hr]
  refine (show _ = codesBlock (iblk m c 0 t) (iblk m c 1 t) (iblk m c 2 t) (iblk m c 3 t) (ix2 r d) from ?_).trans ?_
  · exact congrArg (codesBlock (iblk m c 0 t) (iblk m c 1 t) (iblk m c 2 t) (iblk m c 3 t))
      (show (cfg0.win 4).xinj (grid0.coords t) (ix2 r d : S2048x256.Idx) = ix2 r d from
        funext fun a => Fin.ext (match a with | ⟨0, _⟩ => rfl | ⟨1, _⟩ => rfl))
  · rw [codes_lane, block_short, block_weights, block_dists]
    rfl

/-- A point writes its block of the code numbers. -/
theorem writes_index (t : Fin cfg0.N) :
    (dats m 0 c).flushed 5 t = ((cfg0.win 5).blk t).view.read (Elt Ideal) (indexArray m c) := by
  show (cfg0.win 5).cut (grid0.coords t) ((dats m 0 c).after 5 t) = _
  rw [after0_5, point_index]
  funext y
  rw [View.read_apply]
  obtain ⟨r, rfl⟩ : ∃ r : Fin 2048, y = (ix3 0 0 r : S1x1x2048.Idx) :=
    ⟨y 2, funext fun a => match a with
      | ⟨0, _⟩ => Subsingleton.elim (α := Fin 1) _ _
      | ⟨1, _⟩ => Subsingleton.elim (α := Fin 1) _ _
      | ⟨2, _⟩ => rfl⟩
  have hr : ((cfg0.win 5).blk t).view.emb (ix3 0 0 r : S1x1x2048.Idx)
      = (ix3 ⟨t.val, point_lt t⟩ 0 r : S8x1x2048.Idx) := by
    funext a
    apply Fin.ext
    match a with
    | ⟨0, _⟩ => show win0_5.index t 0 * 1 + 1 * 0 = t.val; rw [(place5 t).1]; omega
    | ⟨1, _⟩ => show win0_5.index t 1 * 1 + 1 * 0 = 0; rw [(place5 t).2.1]
    | ⟨2, _⟩ => show win0_5.index t 2 * 2048 + 1 * r.val = r.val; rw [(place5 t).2.2]; omega
  rw [hr]
  refine (show _ = indexBlock (iblk m c 0 t) (iblk m c 2 t) (ix3 0 0 r) from ?_).trans ?_
  · exact congrArg (indexBlock (iblk m c 0 t) (iblk m c 2 t))
      (show (cfg0.win 5).xinj (grid0.coords t) (ix3 0 0 r : S1x1x2048.Idx) = ix3 0 0 r from
        funext fun a => Fin.ext (match a with | ⟨0, _⟩ => rfl | ⟨1, _⟩ => rfl | ⟨2, _⟩ => rfl))
  · rw [index_lane, block_dists]
    rfl

/-- The last point writes the mean. -/
theorem writes_mean (v : EReal) (hv : ∀ t : Fin cfg0.N, t.val % 8 = 7 → (outsAt0 m c t.val t.isLt).2.2.1 (ix2 0 0) = v)
    (t : Fin cfg0.N) (hf : (cfg0.win 6).flush t = true) :
    (dats m 0 c).flushed 6 t = ((cfg0.win 6).blk t).view.read (Elt Ideal) (fun _ => v) := by
  show (cfg0.win 6).cut (grid0.coords t) ((dats m 0 c).after 6 t) = _
  rw [after0_6]
  funext y
  rw [View.read_apply]
  refine Eq.trans ?_ (hv t ((flush0_6 t).mp hf))
  exact congrArg (outsAt0 m c t.val t.isLt).2.2.1
    (funext fun a => Fin.ext (match a with
      | ⟨0, _⟩ => congrArg Fin.val (Subsingleton.elim (α := Fin 1) (y 0) 0)
      | ⟨1, _⟩ => congrArg Fin.val (Subsingleton.elim (α := Fin 1) (y 1) 0)))

/-- The last point writes the effective number of units. -/
theorem writes_units (v : EReal) (hv : ∀ t : Fin cfg0.N, t.val % 8 = 7 → (outsAt0 m c t.val t.isLt).2.2.2.1 (ix2 0 0) = v)
    (t : Fin cfg0.N) (hf : (cfg0.win 7).flush t = true) :
    (dats m 0 c).flushed 7 t = ((cfg0.win 7).blk t).view.read (Elt Ideal) (fun _ => v) := by
  show (cfg0.win 7).cut (grid0.coords t) ((dats m 0 c).after 7 t) = _
  rw [after0_7]
  funext y
  rw [View.read_apply]
  refine Eq.trans ?_ (hv t ((flush0_7 t).mp hf))
  exact congrArg (outsAt0 m c t.val t.isLt).2.2.2.1
    (funext fun a => Fin.ext (match a with
      | ⟨0, _⟩ => congrArg Fin.val (Subsingleton.elim (α := Fin 1) (y 0) 0)
      | ⟨1, _⟩ => congrArg Fin.val (Subsingleton.elim (α := Fin 1) (y 1) 0)))

/-- The point of a block number. -/
def pointOf (t : ℕ) (h : t < 8) : Fin cfg0.N := ⟨t, lt_of_lt_of_eq h (show cfg0.N = 8 from N_0).symm⟩

/-- The last point. -/
def lastPoint : Fin cfg0.N := pointOf 7 (by decide)

/-- The written blocks are the array of masked codes. -/
theorem array_codes : (dats m 0 c).arrAt 4 cfg0.N = codesArray m c :=
  (dats m 0 c).arrAt_eq_of_cover 4 _ (fun t _ => writes_codes m c t) fun (i : S16384x256.Idx) => by
    have h0 : (i 0 : Nat) < 16384 := (i 0).isLt
    have h1 : (i 1 : Nat) < 256 := (i 1).isLt
    have hq : (i 0 : Nat) / 2048 < 8 := by omega
    refine ⟨pointOf ((i 0 : Nat) / 2048) hq, flush0_4 _, ?_⟩
    show i ∈ ((View.whole main_v4_0).slice (win0_4.rect (pointOf ((i 0 : Nat) / 2048) hq))).set
    rw [View.set_slice_whole, Rect.mem_set_unit]
    have hp := place4 (pointOf ((i 0 : Nat) / 2048) hq)
    intro a
    match a with
    | ⟨0, _⟩ =>
      show win0_4.index _ 0 * 2048 ≤ (i 0 : Nat) ∧ (i 0 : Nat) < win0_4.index _ 0 * 2048 + 2048
      rw [hp.1]
      show (i 0 : Nat) / 2048 * 2048 ≤ _ ∧ _ < (i 0 : Nat) / 2048 * 2048 + 2048
      omega
    | ⟨1, _⟩ =>
      show win0_4.index _ 1 * 256 ≤ (i 1 : Nat) ∧ (i 1 : Nat) < win0_4.index _ 1 * 256 + 256
      rw [hp.2]; omega

/-- The written blocks are the array of code numbers. -/
theorem array_index : (dats m 0 c).arrAt 5 cfg0.N = indexArray m c :=
  (dats m 0 c).arrAt_eq_of_cover 5 _ (fun t _ => writes_index m c t) fun (i : S8x1x2048.Idx) => by
    have h0 : (i 0 : Nat) < 8 := (i 0).isLt
    have h1 : (i 1 : Nat) < 1 := (i 1).isLt
    have h2 : (i 2 : Nat) < 2048 := (i 2).isLt
    refine ⟨pointOf (i 0 : Nat) h0, flush0_5 _, ?_⟩
    show i ∈ ((View.whole main_v4_1).slice (win0_5.rect (pointOf (i 0 : Nat) h0))).set
    rw [View.set_slice_whole, Rect.mem_set_unit]
    have hp := place5 (pointOf (i 0 : Nat) h0)
    intro a
    match a with
    | ⟨0, _⟩ =>
      show win0_5.index _ 0 * 1 ≤ (i 0 : Nat) ∧ (i 0 : Nat) < win0_5.index _ 0 * 1 + 1
      rw [hp.1]
      show (i 0 : Nat) * 1 ≤ _ ∧ _ < (i 0 : Nat) * 1 + 1
      omega
    | ⟨1, _⟩ =>
      show win0_5.index _ 1 * 1 ≤ (i 1 : Nat) ∧ (i 1 : Nat) < win0_5.index _ 1 * 1 + 1
      rw [hp.2.1]; omega
    | ⟨2, _⟩ =>
      show win0_5.index _ 2 * 2048 ≤ (i 2 : Nat) ∧ (i 2 : Nat) < win0_5.index _ 2 * 2048 + 2048
      rw [hp.2.2]; omega

/-- The array of one element holds the mean. -/
theorem array_mean (v : EReal)
    (hv : ∀ t : Fin cfg0.N, t.val % 8 = 7 → (outsAt0 m c t.val t.isLt).2.2.1 (ix2 0 0) = v) :
    (dats m 0 c).arrAt 6 cfg0.N = fun _ => v :=
  (dats m 0 c).arrAt_eq_of_cover 6 _ (fun t hf => writes_mean m c v hv t hf) fun (i : S1x1.Idx) => by
    have h0 : (i 0 : Nat) < 1 := (i 0).isLt
    have h1 : (i 1 : Nat) < 1 := (i 1).isLt
    refine ⟨lastPoint, (flush0_6 _).mpr rfl, ?_⟩
    show i ∈ ((View.whole main_v4_2).slice (win0_6.rect lastPoint)).set
    rw [View.set_slice_whole, Rect.mem_set_unit]
    intro a
    match a with
    | ⟨0, _⟩ =>
      show 0 * 1 ≤ (i 0 : Nat) ∧ (i 0 : Nat) < 0 * 1 + 1
      omega
    | ⟨1, _⟩ =>
      show 0 * 1 ≤ (i 1 : Nat) ∧ (i 1 : Nat) < 0 * 1 + 1
      omega

/-- The array of one element holds the effective number of units. -/
theorem array_units (v : EReal)
    (hv : ∀ t : Fin cfg0.N, t.val % 8 = 7 → (outsAt0 m c t.val t.isLt).2.2.2.1 (ix2 0 0) = v) :
    (dats m 0 c).arrAt 7 cfg0.N = fun _ => v :=
  (dats m 0 c).arrAt_eq_of_cover 7 _ (fun t hf => writes_units m c v hv t hf) fun (i : S1x1.Idx) => by
    have h0 : (i 0 : Nat) < 1 := (i 0).isLt
    have h1 : (i 1 : Nat) < 1 := (i 1).isLt
    refine ⟨lastPoint, (flush0_7 _).mpr rfl, ?_⟩
    show i ∈ ((View.whole main_v4_3).slice (win0_7.rect lastPoint)).set
    rw [View.set_slice_whole, Rect.mem_set_unit]
    intro a
    match a with
    | ⟨0, _⟩ =>
      show 0 * 1 ≤ (i 0 : Nat) ∧ (i 0 : Nat) < 0 * 1 + 1
      omega
    | ⟨1, _⟩ =>
      show 0 * 1 ≤ (i 1 : Nat) ∧ (i 1 : Nat) < 0 * 1 + 1
      omega

/-! ## The results -/

/-- The masked codes, at their three coordinates. -/
def codesResult : FVec Ideal S2048x8x256 .f32 := fun i =>
  code m c (i 2) (near m c (Vq.at2 (i 0) (i 1))) * weight m c (Vq.at2 (i 0) (i 1))

/-- The code numbers, row by row. -/
def indexResult : IVec S16384 32 := fun i => BitVec.ofNat 32 (near m c (i 0)).val

/-- Reading the masked codes at three coordinates. -/
theorem codes_reshaped : shapeCast S2048x8x256 (codesArray m c) shapeCasts_S16384x256_S2048x8x256 = codesResult m c := by
  funext i
  obtain ⟨a, b, d, rfl⟩ : ∃ (a : Fin 2048) (b : Fin 8) (d : Fin 256), i = ix3 a b d := ⟨i 0, i 1, i 2, eq_ix3 i⟩
  have e : ∀ g : FVec Ideal S16384x256 .f32,
      shapeCast S2048x8x256 g shapeCasts_S16384x256_S2048x8x256 (ix3 a b d) = g (ix2 (Vq.at2 a b) d) := by
    intro g
    unfold Vq.at2
    pointwise
  exact e _

/-- Reading the code numbers in one row. -/
theorem index_reshaped : shapeCast S16384 (indexArray m c) shapeCasts_S8x1x2048_S16384 = indexResult m c := by
  funext i
  obtain ⟨n, rfl⟩ : ∃ n : Fin 16384, i = ix1 n := ⟨i 0, eq_ix1 i⟩
  have e : ∀ g : IVec S8x1x2048 32, shapeCast S16384 g shapeCasts_S8x1x2048_S16384 (ix1 n)
      = g (ix3 ⟨n.val / 2048, by omega⟩ 0 ⟨n.val % 2048, by omega⟩) := by
    intro g
    pointwise
  refine (e _).trans ?_
  show BitVec.ofNat 32 (near m c (Vq.rowAt (n.val / 2048) ⟨n.val % 2048, _⟩)).val = BitVec.ofNat 32 (near m c n).val
  congr 3
  apply Fin.ext
  have hn := n.isLt
  rw [Vq.rowAt_val _ (by omega)]
  dsimp only
  omega

/-! ## The host operations after the launch -/

/-- The launch's arrays are distinct. -/
theorem arrays_distinct : Function.Injective (Pipeline.arrRef spec0) := by decide

/-- What the last host operations read of an array is what the launch left in it. -/
theorem left_array (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 arrays_distinct c (V0 m c) _ w

/-- The first result. -/
theorem tail_codes : Pipeline.afterTail₀ cfgs (dats m) 0 (V0 m) [hostOps1] c main_v5 = codesResult m c := by
  rw [← codes_reshaped, ← array_codes]
  refine Eq.trans ?_ (congrArg (fun g : FVec Ideal S16384x256 .f32 =>
    shapeCast S2048x8x256 g shapeCasts_S16384x256_S2048x8x256) (left_array m c 4))
  unfold Pipeline.afterTail₀
  simp only [List.flatten_cons, List.flatten_nil, List.append_nil]
  after_results_simp <;> rfl

/-- The third result. -/
theorem tail_index : Pipeline.afterTail₀ cfgs (dats m) 0 (V0 m) [hostOps1] c main_v6 = indexResult m c := by
  rw [← index_reshaped, ← array_index]
  refine Eq.trans ?_ (congrArg (fun g : IVec S8x1x2048 32 =>
    shapeCast S16384 g shapeCasts_S8x1x2048_S16384) (left_array m c 5))
  unfold Pipeline.afterTail₀
  simp only [List.flatten_cons, List.flatten_nil, List.append_nil]
  after_results_simp <;> rfl

/-- The second result. -/
theorem tail_mean (v : EReal)
    (hv : ∀ t : Fin cfg0.N, t.val % 8 = 7 → (outsAt0 m c t.val t.isLt).2.2.1 (ix2 0 0) = v) :
    Pipeline.afterTail₀ cfgs (dats m) 0 (V0 m) [hostOps1] c main_v7 = fun _ => v := by
  refine Eq.trans ?_ (congrArg (fun g : FVec Ideal S1x1 .f32 =>
    shapeCast S_ g shapeCasts_S1x1_S_) ((left_array m c 6).trans (array_mean m c v hv)))
  unfold Pipeline.afterTail₀
  simp only [List.flatten_cons, List.flatten_nil, List.append_nil]
  after_results_simp <;> rfl

/-- The fourth result. -/
theorem tail_units (v : EReal)
    (hv : ∀ t : Fin cfg0.N, t.val % 8 = 7 → (outsAt0 m c t.val t.isLt).2.2.2.1 (ix2 0 0) = v) :
    Pipeline.afterTail₀ cfgs (dats m) 0 (V0 m) [hostOps1] c main_v8 = fun _ => v := by
  refine Eq.trans ?_ (congrArg (fun g : FVec Ideal S1x1 .f32 =>
    shapeCast S_ g shapeCasts_S1x1_S_) ((left_array m c 7).trans (array_units m c v hv)))
  unfold Pipeline.afterTail₀
  simp only [List.flatten_cons, List.flatten_nil, List.append_nil]
  after_results_simp <;> rfl

/-- The kernel's run: its four results, and its arguments unchanged. -/
theorem run (ρ : Dev nD → PrngReg) :
    θ_run defs (onTc (τ := τ) (main (F := Ideal))) ⟨m, fun _ => 0, ρ⟩ fun r => ∀ c : Dev nD,
      (r.2.mem ((c : Thread nD τ).loc main_v5) = codesResult m c
        ∧ r.2.mem ((c : Thread nD τ).loc main_v7) = (fun _ => meanLoss m c)
        ∧ r.2.mem ((c : Thread nD τ).loc main_v6) = indexResult m c
        ∧ r.2.mem ((c : Thread nD τ).loc main_v8) = (fun _ => unitsUsed m c))
      ∧ (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) :=
  (θ_run defs _ _).mono (fun _ h c =>
    ⟨⟨((h c).2 main_v5 (Pipeline.mem_restRefs_of main_v5 (by decide) (by decide))).trans (tail_codes m c),
      ((h c).2 main_v7 (Pipeline.mem_restRefs_of main_v7 (by decide) (by decide))).trans (tail_mean m c _ (mean_last m c)),
      ((h c).2 main_v6 (Pipeline.mem_restRefs_of main_v6 (by decide) (by decide))).trans (tail_index m c),
      ((h c).2 main_v8 (Pipeline.mem_restRefs_of main_v8 (by decide) (by decide))).trans (tail_units m c _ (units_last m c))⟩,
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c)))⟩)
    (run_main m ρ)

end Cert.KernelIdeal.Hand

end
-- ==== Proof.Agree.lean ====
/- The reference's four results as functions of the arguments, the precondition's finite numbers, and their equality with
   the kernel's four. -/
module

public import proofs.«01_k».proof.Proof.RefClosed
public import proofs.«01_k».proof.Proof.KernelRun
public import proofs.«01_k».proof.Proof.Gen.Pre_finite

@[expose] public section

noncomputable section

namespace Cert.ReferenceIdeal.Hand

open Cert.ReferenceIdeal Cert.ReferenceIdeal.Gen Idealize.ShloMosaic

section Closed

variable (x : FVec Ideal S2048x8x256 .f32) (w : IVec S2048x8 1) (e : FVec Ideal S256x1024 .f32)

/-- The first result, at a finite input: each row's nearest code under the mask. -/
theorem quant_closed (hx : ∀ i, ∃ r : ℝ, x i = (r : EReal)) :
    quant (codes x e) w x = fun i => e (ix2 (i 2) (Vq.nearest (dists x e (Vq.at2 (i 0) (i 1)))))
      * wt w (Vq.at2 (i 0) (i 1)) := by
  funext i
  obtain ⟨a, b, d, rfl⟩ : ∃ (a : Fin 2048) (b : Fin 8) (d : Fin 256), i = ix3 a b d := ⟨i 0, i 1, i 2, eq_ix3 i⟩
  obtain ⟨r, hr⟩ := hx (ix3 a b d)
  rw [quant_lane, codes_at, hr]
  exact Vq.restore r _ _ (wt_bit w _)

/-- The second result, at finite inputs: the weighted least distances over the number of lanes. -/
theorem diff_closed (hx : ∀ i, ∃ r : ℝ, x i = (r : EReal)) (he : ∀ i, ∃ r : ℝ, e i = (r : EReal)) :
    diff (codes x e) w x
      = fun _ => Ideal.div (∑ n, Vq.least (dists x e n) * wt w n) (Ideal.ofBits .f32 1249902592#32) := by
  funext i
  obtain rfl : i = ix0 := Subsingleton.elim _ _
  refine (diff_lane _ _ _).trans (congrArg (fun s : EReal => Ideal.div s (Ideal.ofBits .f32 1249902592#32)) ?_)
  rw [← Vq.sum_rows]
  refine Finset.sum_congr rfl fun a _ => Finset.sum_congr rfl fun b _ => ?_
  have h := Vq.least_masked (fun d => x (ix3 (Vq.hi (Vq.at2 a b)) (Vq.lo (Vq.at2 a b)) d)) (fun d k => e (ix2 d k))
    (wt w (Vq.at2 a b)) (fun d => hx _) (fun d k => he _) (wt_bit w _)
  refine Eq.trans (Finset.sum_congr rfl fun d _ => ?_) h
  rw [codes_at, Vq.hi_at2, Vq.lo_at2, dists, Vq.hi_at2, Vq.lo_at2]

/-- The third result: each row's nearest code's number. -/
theorem index_closed : index x e = fun i => BitVec.ofNat 32 (Vq.nearest (dists x e (i 0))).val := by
  funext i
  obtain ⟨n, rfl⟩ : ∃ n : Fin 16384, i = ix1 n := ⟨i 0, eq_ix1 i⟩
  exact index_at x e n

/-- The weight of row `n` at code `k`. -/
def markOf (n : Fin 16384) (k : Fin 1024) : EReal := wt w n * if k = Vq.nearest (dists x e n) then 1 else 0

/-- The marks of a row add up to its weight. -/
theorem sum_marks (n : Fin 16384) : ∑ k, markOf x w e n k = wt w n := by
  simp [markOf]

/-- The fourth result: the effective number of units of the codes' weights. -/
theorem units_closed : units (oneHot (F := Ideal) (index x e)) w = fun _ =>
    Ideal.div 1 (∑ k, Ideal.div (∑ n, markOf x w e n k) (max (∑ k, ∑ n, markOf x w e n k) 1)
      * Ideal.div (∑ n, markOf x w e n k) (max (∑ k, ∑ n, markOf x w e n k) 1)) := by
  funext i
  obtain rfl : i = ix0 := Subsingleton.elim _ _
  have h1 : ∀ n k, oneHot (F := Ideal) (index x e) (ix2 n k) * wt w n = markOf x w e n k := fun n k => by
    rw [oneHot_at _ n k _ (index_at x e n), mul_comm]; rfl
  have h2 : ∑ k, ∑ n, markOf x w e n k = ∑ n, wt w n := by
    rw [Finset.sum_comm]
    exact Finset.sum_congr rfl fun n _ => sum_marks x w e n
  rw [units_lane, h2]
  simp only [h1]

end Closed

/-! ## The precondition -/

/-- A number whose absolute value is below infinity is finite. -/
theorem finite_of_abs (v : EReal) (h : FloatOps.cmpf (F := Ideal) (φ := .f32) .olt (max v (-v)) ⊤ = 1#1) :
    ∃ r : ℝ, v = (r : EReal) := by
  have h' : max v (-v) < ⊤ := by
    by_contra hn
    simp [Ideal.cmpf_def, Ideal.cmp, hn] at h
  induction v with
  | bot => simp at h'
  | top => simp at h'
  | coe r => exact ⟨r, rfl⟩

/-- The lanes of the precondition's first part. -/
theorem finite_rows (x : FVec Ideal S2048x8x256 .f32) (w : IVec S2048x8 1) (e : FVec Ideal S256x1024 .f32)
    (h : (Cert.Pre_finite.fn (F := Ideal) x w e).1 = fun _ => 1#1) (i : S2048x8x256.Idx) : ∃ r : ℝ, x i = (r : EReal) := by
  have hi := congrFun h i
  obtain ⟨a, b, d, rfl⟩ : ∃ (a : Fin 2048) (b : Fin 8) (d : Fin 256), i = ix3 a b d := ⟨i 0, i 1, i 2, eq_ix3 i⟩
  refine finite_of_abs _ ?_
  rw [← hi, ← Cert.KernelIdeal.Hand.const_top]
  rfl

/-- The lanes of the precondition's second part. -/
theorem finite_codes (x : FVec Ideal S2048x8x256 .f32) (w : IVec S2048x8 1) (e : FVec Ideal S256x1024 .f32)
    (h : (Cert.Pre_finite.fn (F := Ideal) x w e).2 = fun _ => 1#1) (i : S256x1024.Idx) : ∃ r : ℝ, e i = (r : EReal) := by
  have hi := congrFun h i
  refine finite_of_abs _ ?_
  rw [← hi, ← Cert.KernelIdeal.Hand.const_top]
  rfl

end Cert.ReferenceIdeal.Hand

/-! ## The kernel's results -/

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (c : Dev nD)

/-- The input. -/
def argX : FVec Ideal S2048x8x256 .f32 := m ((c : Thread nD τ).loc main_arg0)

/-- The mask. -/
def argW : IVec S2048x8 1 := m ((c : Thread nD τ).loc main_arg1)

/-- The codes. -/
def argE : FVec Ideal S256x1024 .f32 := m ((c : Thread nD τ).loc main_arg2)

/-- The first results agree at a finite input. -/
theorem agree_codes (hx : ∀ i, ∃ r : ℝ, argX m c i = (r : EReal)) :
    ReferenceIdeal.Hand.quant (ReferenceIdeal.Hand.codes (argX m c) (argE m c)) (argW m c) (argX m c) = codesResult m c :=
  (ReferenceIdeal.Hand.quant_closed (argX m c) (argW m c) (argE m c) hx).trans rfl

/-- The second results agree at finite inputs. -/
theorem agree_mean (hx : ∀ i, ∃ r : ℝ, argX m c i = (r : EReal)) (he : ∀ i, ∃ r : ℝ, argE m c i = (r : EReal)) :
    ReferenceIdeal.Hand.diff (ReferenceIdeal.Hand.codes (argX m c) (argE m c)) (argW m c) (argX m c)
      = fun _ => meanLoss m c :=
  (ReferenceIdeal.Hand.diff_closed (argX m c) (argW m c) (argE m c) hx he).trans rfl

/-- The third results agree. -/
theorem agree_index : ReferenceIdeal.Hand.index (argX m c) (argE m c) = indexResult m c :=
  (ReferenceIdeal.Hand.index_closed (argX m c) (argE m c)).trans rfl

/-- The fourth results agree. -/
theorem agree_units :
    ReferenceIdeal.Hand.units (ReferenceIdeal.Hand.oneHot (F := Ideal) (ReferenceIdeal.Hand.index (argX m c) (argE m c))) (argW m c)
      = fun _ => unitsUsed m c :=
  (ReferenceIdeal.Hand.units_closed (argX m c) (argW m c) (argE m c)).trans rfl

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.SL.Sem

/-- The reference terminates with its arguments unchanged and every counter at zero. -/
theorem reference_frame : Cert.quiescent_ReferenceIdeal :=
  fun m ρ _ => (θ_run Cert.ReferenceIdeal.defs _ _).mono
    (fun r h => ⟨fun c => (h c).2, sem_eq_zero_of_no_sems (by decide) r.2⟩)
    (Cert.ReferenceIdeal.Hand.run (F := Ideal) m ρ)

/-- At finite rows and codes the kernel and the reference end with the same four results. -/
theorem same_results : Cert.algebraic_KernelIdeal_ReferenceIdeal_pre_finite := by
  intro m g m' g' hpre hagree
  refine ⟨fun c => Cert.KernelIdeal.Hand.codesResult m c, fun c _ => Cert.KernelIdeal.Hand.meanLoss m c,
    fun c => Cert.KernelIdeal.Hand.indexResult m c, fun c _ => Cert.KernelIdeal.Hand.unitsUsed m c, ?_, ?_⟩
  · exact (θ_run Cert.KernelIdeal.defs _ _).mono
      (fun _ h c => ⟨(h c).1.1, (h c).1.2.1, (h c).1.2.2.1, (h c).1.2.2.2, (h c).2⟩) (Cert.KernelIdeal.Hand.run m g)
  · refine (θ_run Cert.ReferenceIdeal.defs _ _).mono (fun r h c => ?_) (Cert.ReferenceIdeal.Hand.run (F := Ideal) m' g')
    obtain ⟨⟨h1, h2, h3, h4⟩, hargs⟩ := h c
    obtain ⟨e0, e1, e2⟩ := hagree c
    have hx := Cert.ReferenceIdeal.Hand.finite_rows _ _ _ (hpre c).1
    have he := Cert.ReferenceIdeal.Hand.finite_codes _ _ _ (hpre c).2
    rw [e0, e1, e2] at h1 h2
    rw [e0, e2] at h3
    rw [e0, e1, e2] at h4
    exact ⟨h1.trans (Cert.KernelIdeal.Hand.agree_codes m c hx), h2.trans (Cert.KernelIdeal.Hand.agree_mean m c hx he),
      h3.trans (Cert.KernelIdeal.Hand.agree_index m c), h4.trans (Cert.KernelIdeal.Hand.agree_units m c), hargs⟩

/-- The claim. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    same_results⟩

end Cert.Proof

end
